-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x224x224 : Shape := ⟨4, ![2, 3, 224, 224]⟩
abbrev S64x3x3x3 : Shape := ⟨4, ![64, 3, 3, 3]⟩
abbrev S64 : Shape := ⟨1, ![64]⟩
abbrev S1x64x3x3 : Shape := ⟨4, ![1, 64, 3, 3]⟩
abbrev S1 : Shape := ⟨1, ![1]⟩
abbrev S128x3x3x3 : Shape := ⟨4, ![128, 3, 3, 3]⟩
abbrev S128 : Shape := ⟨1, ![128]⟩
abbrev S192x128x3x3 : Shape := ⟨4, ![192, 128, 3, 3]⟩
abbrev S192 : Shape := ⟨1, ![192]⟩
abbrev S200x1x200 : Shape := ⟨3, ![200, 1, 200]⟩
abbrev S128x27 : Shape := ⟨2, ![128, 27]⟩
abbrev S192x3x3x128 : Shape := ⟨4, ![192, 3, 3, 128]⟩
abbrev S192x1152 : Shape := ⟨2, ![192, 1152]⟩
abbrev S128x1 : Shape := ⟨2, ![128, 1]⟩
abbrev S192x1 : Shape := ⟨2, ![192, 1]⟩
abbrev S_ : Shape := ⟨0, ![]⟩
abbrev S2x3x224x226 : Shape := ⟨4, ![2, 3, 224, 226]⟩
abbrev S2x3x5x226 : Shape := ⟨4, ![2, 3, 5, 226]⟩
abbrev S1x2x3x5x226 : Shape := ⟨5, ![1, 2, 3, 5, 226]⟩
abbrev S16x2x3x5x226 : Shape := ⟨5, ![16, 2, 3, 5, 226]⟩
abbrev S6x2x3x5x226 : Shape := ⟨5, ![6, 2, 3, 5, 226]⟩
abbrev S22x2x3x5x226 : Shape := ⟨5, ![22, 2, 3, 5, 226]⟩
abbrev S22x2x192x224 : Shape := ⟨4, ![22, 2, 192, 224]⟩
abbrev S1x2x192x224 : Shape := ⟨4, ![1, 2, 192, 224]⟩
abbrev S1x1x3x1x224 : Shape := ⟨5, ![1, 1, 3, 1, 224]⟩
abbrev S3x224 : Shape := ⟨2, ![3, 224]⟩
abbrev S27x224 : Shape := ⟨2, ![27, 224]⟩
abbrev S27x448 : Shape := ⟨2, ![27, 448]⟩
abbrev S128x448 : Shape := ⟨2, ![128, 448]⟩
abbrev S128x224 : Shape := ⟨2, ![128, 224]⟩
abbrev S128x226 : Shape := ⟨2, ![128, 226]⟩
abbrev S1152x224 : Shape := ⟨2, ![1152, 224]⟩
abbrev S1152x448 : Shape := ⟨2, ![1152, 448]⟩
abbrev S192x448 : Shape := ⟨2, ![192, 448]⟩
abbrev S192x224 : Shape := ⟨2, ![192, 224]⟩
abbrev S1x1x192x224 : Shape := ⟨4, ![1, 1, 192, 224]⟩
abbrev S2x192x200x200 : Shape := ⟨4, ![2, 192, 200, 200]⟩
abbrev S22x1x96x224 : Shape := ⟨4, ![22, 1, 96, 224]⟩
abbrev S1x96x200x200 : Shape := ⟨4, ![1, 96, 200, 200]⟩
abbrev S224x200 : Shape := ⟨2, ![224, 200]⟩
abbrev S96x101x200 : Shape := ⟨3, ![96, 101, 200]⟩
abbrev S1x96x101x200 : Shape := ⟨4, ![1, 96, 101, 200]⟩
abbrev S1x1x96x224 : Shape := ⟨4, ![1, 1, 96, 224]⟩
abbrev S96x224 : Shape := ⟨2, ![96, 224]⟩
abbrev S1x1x200 : Shape := ⟨3, ![1, 1, 200]⟩
abbrev S1x200 : Shape := ⟨2, ![1, 200]⟩
abbrev S96x200 : Shape := ⟨2, ![96, 200]⟩
abbrev S1x96x1x200 : Shape := ⟨4, ![1, 96, 1, 200]⟩

abbrev nBuf : Space → Nat
  | .hbm => 71
  | .vmem => 14
  | .smem => 0
  | _ => 0

abbrev bufTy : (tb : Table) → Fin (tcTables nBuf tb) → BufTy
  | .hbm, ⟨0, _⟩ => ⟨S2x3x224x224, .f32⟩
  | .hbm, ⟨1, _⟩ => ⟨S64x3x3x3, .f32⟩
  | .hbm, ⟨2, _⟩ => ⟨S64, .f32⟩
  | .hbm, ⟨3, _⟩ => ⟨S1x64x3x3, .f32⟩
  | .hbm, ⟨4, _⟩ => ⟨S1, .f32⟩
  | .hbm, ⟨5, _⟩ => ⟨S128x3x3x3, .f32⟩
  | .hbm, ⟨6, _⟩ => ⟨S128, .f32⟩
  | .hbm, ⟨7, _⟩ => ⟨S192x128x3x3, .f32⟩
  | .hbm, ⟨8, _⟩ => ⟨S192, .f32⟩
  | .hbm, ⟨9, _⟩ => ⟨S200x1x200, .i32⟩
  | .hbm, ⟨10, _⟩ => ⟨S200x1x200, .f32⟩
  | .hbm, ⟨11, _⟩ => ⟨S128x3x3x3, .f32⟩
  | .hbm, ⟨12, _⟩ => ⟨S128x27, .f32⟩
  | .hbm, ⟨13, _⟩ => ⟨S128x27, .bf16⟩
  | .hbm, ⟨14, _⟩ => ⟨S192x3x3x128, .f32⟩
  | .hbm, ⟨15, _⟩ => ⟨S192x1152, .f32⟩
  | .hbm, ⟨16, _⟩ => ⟨S192x1152, .bf16⟩
  | .hbm, ⟨17, _⟩ => ⟨S128x1, .f32⟩
  | .hbm, ⟨18, _⟩ => ⟨S192x1, .f32⟩
  | .hbm, ⟨19, _⟩ => ⟨S_, .i32⟩
  | .hbm, ⟨20, _⟩ => ⟨S_, .f32⟩
  | .hbm, ⟨21, _⟩ => ⟨S2x3x224x226, .f32⟩
  | .hbm, ⟨22, _⟩ => ⟨S2x3x5x226, .f32⟩
  | .hbm, ⟨23, _⟩ => ⟨S2x3x5x226, .f32⟩
  | .hbm, ⟨24, _⟩ => ⟨S2x3x5x226, .f32⟩
  | .hbm, ⟨25, _⟩ => ⟨S2x3x5x226, .f32⟩
  | .hbm, ⟨26, _⟩ => ⟨S2x3x5x226, .f32⟩
  | .hbm, ⟨27, _⟩ => ⟨S2x3x5x226, .f32⟩
  | .hbm, ⟨28, _⟩ => ⟨S2x3x5x226, .f32⟩
  | .hbm, ⟨29, _⟩ => ⟨S2x3x5x226, .f32⟩
  | .hbm, ⟨30, _⟩ => ⟨S2x3x5x226, .f32⟩
  | .hbm, ⟨31, _⟩ => ⟨S2x3x5x226, .f32⟩
  | .hbm, ⟨32, _⟩ => ⟨S2x3x5x226, .f32⟩
  | .hbm, ⟨33, _⟩ => ⟨S2x3x5x226, .f32⟩
  | .hbm, ⟨34, _⟩ => ⟨S2x3x5x226, .f32⟩
  | .hbm, ⟨35, _⟩ => ⟨S2x3x5x226, .f32⟩
  | .hbm, ⟨36, _⟩ => ⟨S2x3x5x226, .f32⟩
  | .hbm, ⟨37, _⟩ => ⟨S2x3x5x226, .f32⟩
  | .hbm, ⟨38, _⟩ => ⟨S2x3x5x226, .f32⟩
  | .hbm, ⟨39, _⟩ => ⟨S2x3x5x226, .f32⟩
  | .hbm, ⟨40, _⟩ => ⟨S2x3x5x226, .f32⟩
  | .hbm, ⟨41, _⟩ => ⟨S2x3x5x226, .f32⟩
  | .hbm, ⟨42, _⟩ => ⟨S2x3x5x226, .f32⟩
  | .hbm, ⟨43, _⟩ => ⟨S2x3x5x226, .f32⟩
  | .hbm, ⟨44, _⟩ => ⟨S1x2x3x5x226, .f32⟩
  | .hbm, ⟨45, _⟩ => ⟨S1x2x3x5x226, .f32⟩
  | .hbm, ⟨46, _⟩ => ⟨S1x2x3x5x226, .f32⟩
  | .hbm, ⟨47, _⟩ => ⟨S1x2x3x5x226, .f32⟩
  | .hbm, ⟨48, _⟩ => ⟨S1x2x3x5x226, .f32⟩
  | .hbm, ⟨49, _⟩ => ⟨S1x2x3x5x226, .f32⟩
  | .hbm, ⟨50, _⟩ => ⟨S1x2x3x5x226, .f32⟩
  | .hbm, ⟨51, _⟩ => ⟨S1x2x3x5x226, .f32⟩
  | .hbm, ⟨52, _⟩ => ⟨S1x2x3x5x226, .f32⟩
  | .hbm, ⟨53, _⟩ => ⟨S1x2x3x5x226, .f32⟩
  | .hbm, ⟨54, _⟩ => ⟨S1x2x3x5x226, .f32⟩
  | .hbm, ⟨55, _⟩ => ⟨S1x2x3x5x226, .f32⟩
  | .hbm, ⟨56, _⟩ => ⟨S1x2x3x5x226, .f32⟩
  | .hbm, ⟨57, _⟩ => ⟨S1x2x3x5x226, .f32⟩
  | .hbm, ⟨58, _⟩ => ⟨S1x2x3x5x226, .f32⟩
  | .hbm, ⟨59, _⟩ => ⟨S1x2x3x5x226, .f32⟩
  | .hbm, ⟨60, _⟩ => ⟨S1x2x3x5x226, .f32⟩
  | .hbm, ⟨61, _⟩ => ⟨S1x2x3x5x226, .f32⟩
  | .hbm, ⟨62, _⟩ => ⟨S1x2x3x5x226, .f32⟩
  | .hbm, ⟨63, _⟩ => ⟨S1x2x3x5x226, .f32⟩
  | .hbm, ⟨64, _⟩ => ⟨S1x2x3x5x226, .f32⟩
  | .hbm, ⟨65, _⟩ => ⟨S1x2x3x5x226, .f32⟩
  | .hbm, ⟨66, _⟩ => ⟨S16x2x3x5x226, .f32⟩
  | .hbm, ⟨67, _⟩ => ⟨S6x2x3x5x226, .f32⟩
  | .hbm, ⟨68, _⟩ => ⟨S22x2x3x5x226, .f32⟩
  | .hbm, ⟨69, _⟩ => ⟨S22x2x192x224, .f32⟩
  | .hbm, ⟨70, _⟩ => ⟨S2x192x200x200, .f32⟩
  | .local _ .vmem, ⟨0, _⟩ => ⟨S1x2x3x5x226, .f32⟩
  | .local _ .vmem, ⟨1, _⟩ => ⟨S1x2x3x5x226, .f32⟩
  | .local _ .vmem, ⟨2, _⟩ => ⟨S128x27, .bf16⟩
  | .local _ .vmem, ⟨3, _⟩ => ⟨S128x1, .f32⟩
  | .local _ .vmem, ⟨4, _⟩ => ⟨S192x1152, .bf16⟩
  | .local _ .vmem, ⟨5, _⟩ => ⟨S192x1, .f32⟩
  | .local _ .vmem, ⟨6, _⟩ => ⟨S1x2x192x224, .f32⟩
  | .local _ .vmem, ⟨7, _⟩ => ⟨S1x2x192x224, .f32⟩
  | .local _ .vmem, ⟨8, _⟩ => ⟨S22x1x96x224, .f32⟩
  | .local _ .vmem, ⟨9, _⟩ => ⟨S22x1x96x224, .f32⟩
  | .local _ .vmem, ⟨10, _⟩ => ⟨S200x1x200, .i32⟩
  | .local _ .vmem, ⟨11, _⟩ => ⟨S200x1x200, .f32⟩
  | .local _ .vmem, ⟨12, _⟩ => ⟨S1x96x200x200, .f32⟩
  | .local _ .vmem, ⟨13, _⟩ => ⟨S1x96x200x200, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x3x5x226 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x27 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x192x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S22x1x96x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S200x1x200 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S200x1x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x96x200x200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S2x3x224x224 : Shape := ⟨4, ![2, 3, 224, 224]⟩
abbrev S64x3x3x3 : Shape := ⟨4, ![64, 3, 3, 3]⟩
abbrev S64 : Shape := ⟨1, ![64]⟩
abbrev S1x64x3x3 : Shape := ⟨4, ![1, 64, 3, 3]⟩
abbrev S1 : Shape := ⟨1, ![1]⟩
abbrev S128x3x3x3 : Shape := ⟨4, ![128, 3, 3, 3]⟩
abbrev S128 : Shape := ⟨1, ![128]⟩
abbrev S192x128x3x3 : Shape := ⟨4, ![192, 128, 3, 3]⟩
abbrev S192 : Shape := ⟨1, ![192]⟩
abbrev S200x200 : Shape := ⟨2, ![200, 200]⟩
abbrev S_ : Shape := ⟨0, ![]⟩
abbrev S2x3x226x226 : Shape := ⟨4, ![2, 3, 226, 226]⟩
abbrev S128x3x1x1 : Shape := ⟨4, ![128, 3, 1, 1]⟩
abbrev S128x3 : Shape := ⟨2, ![128, 3]⟩
abbrev S2x224x224x128 : Shape := ⟨4, ![2, 224, 224, 128]⟩
abbrev S2x128x224x224 : Shape := ⟨4, ![2, 128, 224, 224]⟩
abbrev S1x128x1x1 : Shape := ⟨4, ![1, 128, 1, 1]⟩
abbrev S2x128x226x226 : Shape := ⟨4, ![2, 128, 226, 226]⟩
abbrev S192x128x1x1 : Shape := ⟨4, ![192, 128, 1, 1]⟩
abbrev S192x128 : Shape := ⟨2, ![192, 128]⟩
abbrev S2x224x224x192 : Shape := ⟨4, ![2, 224, 224, 192]⟩
abbrev S2x192x224x224 : Shape := ⟨4, ![2, 192, 224, 224]⟩
abbrev S1x192x1x1 : Shape := ⟨4, ![1, 192, 1, 1]⟩
abbrev S200x200x1 : Shape := ⟨3, ![200, 200, 1]⟩
abbrev S200x200x2 : Shape := ⟨3, ![200, 200, 2]⟩
abbrev S2x192x200x200 : Shape := ⟨4, ![2, 192, 200, 200]⟩
abbrev S1x1x200x200 : Shape := ⟨4, ![1, 1, 200, 200]⟩

abbrev nBuf : Space → Nat
  | .hbm => 157
  | .vmem => 0
  | .smem => 0
  | _ => 0

abbrev hbmTy0_0 (i : Nat) : BufTy := match i % 128 with
  | 0 => ⟨S2x3x224x224, .f32⟩
  | 1 => ⟨S64x3x3x3, .f32⟩
  | 2 => ⟨S64, .f32⟩
  | 3 => ⟨S1x64x3x3, .f32⟩
  | 4 => ⟨S1, .f32⟩
  | 5 => ⟨S128x3x3x3, .f32⟩
  | 6 => ⟨S128, .f32⟩
  | 7 => ⟨S192x128x3x3, .f32⟩
  | 8 => ⟨S192, .f32⟩
  | 9 => ⟨S200x200, .i32⟩
  | 10 => ⟨S200x200, .i32⟩
  | 11 => ⟨S200x200, .i1⟩
  | 12 => ⟨S_, .i32⟩
  | 13 => ⟨S_, .f32⟩
  | 14 => ⟨S2x3x226x226, .f32⟩
  | 15 => ⟨S128x3x1x1, .f32⟩
  | 16 => ⟨S128x3, .f32⟩
  | 17 => ⟨S2x3x224x224, .f32⟩
  | 18 => ⟨S2x224x224x128, .f32⟩
  | 19 => ⟨S2x128x224x224, .f32⟩
  | 20 => ⟨S128x3x1x1, .f32⟩
  | 21 => ⟨S128x3, .f32⟩
  | 22 => ⟨S2x3x224x224, .f32⟩
  | 23 => ⟨S2x224x224x128, .f32⟩
  | 24 => ⟨S2x128x224x224, .f32⟩
  | 25 => ⟨S2x128x224x224, .f32⟩
  | 26 => ⟨S128x3x1x1, .f32⟩
  | 27 => ⟨S128x3, .f32⟩
  | 28 => ⟨S2x3x224x224, .f32⟩
  | 29 => ⟨S2x224x224x128, .f32⟩
  | 30 => ⟨S2x128x224x224, .f32⟩
  | 31 => ⟨S2x128x224x224, .f32⟩
  | 32 => ⟨S128x3x1x1, .f32⟩
  | 33 => ⟨S128x3, .f32⟩
  | 34 => ⟨S2x3x224x224, .f32⟩
  | 35 => ⟨S2x224x224x128, .f32⟩
  | 36 => ⟨S2x128x224x224, .f32⟩
  | 37 => ⟨S2x128x224x224, .f32⟩
  | 38 => ⟨S128x3x1x1, .f32⟩
  | 39 => ⟨S128x3, .f32⟩
  | 40 => ⟨S2x3x224x224, .f32⟩
  | 41 => ⟨S2x224x224x128, .f32⟩
  | 42 => ⟨S2x128x224x224, .f32⟩
  | 43 => ⟨S2x128x224x224, .f32⟩
  | 44 => ⟨S128x3x1x1, .f32⟩
  | 45 => ⟨S128x3, .f32⟩
  | 46 => ⟨S2x3x224x224, .f32⟩
  | 47 => ⟨S2x224x224x128, .f32⟩
  | 48 => ⟨S2x128x224x224, .f32⟩
  | 49 => ⟨S2x128x224x224, .f32⟩
  | 50 => ⟨S128x3x1x1, .f32⟩
  | 51 => ⟨S128x3, .f32⟩
  | 52 => ⟨S2x3x224x224, .f32⟩
  | 53 => ⟨S2x224x224x128, .f32⟩
  | 54 => ⟨S2x128x224x224, .f32⟩
  | 55 => ⟨S2x128x224x224, .f32⟩
  | 56 => ⟨S128x3x1x1, .f32⟩
  | 57 => ⟨S128x3, .f32⟩
  | 58 => ⟨S2x3x224x224, .f32⟩
  | 59 => ⟨S2x224x224x128, .f32⟩
  | 60 => ⟨S2x128x224x224, .f32⟩
  | 61 => ⟨S2x128x224x224, .f32⟩
  | 62 => ⟨S128x3x1x1, .f32⟩
  | 63 => ⟨S128x3, .f32⟩
  | 64 => ⟨S2x3x224x224, .f32⟩
  | 65 => ⟨S2x224x224x128, .f32⟩
  | 66 => ⟨S2x128x224x224, .f32⟩
  | 67 => ⟨S2x128x224x224, .f32⟩
  | 68 => ⟨S1x128x1x1, .f32⟩
  | 69 => ⟨S2x128x224x224, .f32⟩
  | 70 => ⟨S2x128x224x224, .f32⟩
  | 71 => ⟨S_, .f32⟩
  | 72 => ⟨S2x128x224x224, .f32⟩
  | 73 => ⟨S2x128x224x224, .f32⟩
  | 74 => ⟨S_, .i32⟩
  | 75 => ⟨S_, .f32⟩
  | 76 => ⟨S2x128x226x226, .f32⟩
  | 77 => ⟨S192x128x1x1, .f32⟩
  | 78 => ⟨S192x128, .f32⟩
  | 79 => ⟨S2x128x224x224, .f32⟩
  | 80 => ⟨S2x224x224x192, .f32⟩
  | 81 => ⟨S2x192x224x224, .f32⟩
  | 82 => ⟨S192x128x1x1, .f32⟩
  | 83 => ⟨S192x128, .f32⟩
  | 84 => ⟨S2x128x224x224, .f32⟩
  | 85 => ⟨S2x224x224x192, .f32⟩
  | 86 => ⟨S2x192x224x224, .f32⟩
  | 87 => ⟨S2x192x224x224, .f32⟩
  | 88 => ⟨S192x128x1x1, .f32⟩
  | 89 => ⟨S192x128, .f32⟩
  | 90 => ⟨S2x128x224x224, .f32⟩
  | 91 => ⟨S2x224x224x192, .f32⟩
  | 92 => ⟨S2x192x224x224, .f32⟩
  | 93 => ⟨S2x192x224x224, .f32⟩
  | 94 => ⟨S192x128x1x1, .f32⟩
  | 95 => ⟨S192x128, .f32⟩
  | 96 => ⟨S2x128x224x224, .f32⟩
  | 97 => ⟨S2x224x224x192, .f32⟩
  | 98 => ⟨S2x192x224x224, .f32⟩
  | 99 => ⟨S2x192x224x224, .f32⟩
  | 100 => ⟨S192x128x1x1, .f32⟩
  | 101 => ⟨S192x128, .f32⟩
  | 102 => ⟨S2x128x224x224, .f32⟩
  | 103 => ⟨S2x224x224x192, .f32⟩
  | 104 => ⟨S2x192x224x224, .f32⟩
  | 105 => ⟨S2x192x224x224, .f32⟩
  | 106 => ⟨S192x128x1x1, .f32⟩
  | 107 => ⟨S192x128, .f32⟩
  | 108 => ⟨S2x128x224x224, .f32⟩
  | 109 => ⟨S2x224x224x192, .f32⟩
  | 110 => ⟨S2x192x224x224, .f32⟩
  | 111 => ⟨S2x192x224x224, .f32⟩
  | 112 => ⟨S192x128x1x1, .f32⟩
  | 113 => ⟨S192x128, .f32⟩
  | 114 => ⟨S2x128x224x224, .f32⟩
  | 115 => ⟨S2x224x224x192, .f32⟩
  | 116 => ⟨S2x192x224x224, .f32⟩
  | 117 => ⟨S2x192x224x224, .f32⟩
  | 118 => ⟨S192x128x1x1, .f32⟩
  | 119 => ⟨S192x128, .f32⟩
  | 120 => ⟨S2x128x224x224, .f32⟩
  | 121 => ⟨S2x224x224x192, .f32⟩
  | 122 => ⟨S2x192x224x224, .f32⟩
  | 123 => ⟨S2x192x224x224, .f32⟩
  | 124 => ⟨S192x128x1x1, .f32⟩
  | 125 => ⟨S192x128, .f32⟩
  | 126 => ⟨S2x128x224x224, .f32⟩
  | 127 => ⟨S2x224x224x192, .f32⟩
  | _ => ⟨S2x3x224x224, .f32⟩

abbrev hbmTy0_1 (i : Nat) : BufTy := match i % 128 with
  | 0 => ⟨S2x192x224x224, .f32⟩
  | 1 => ⟨S2x192x224x224, .f32⟩
  | 2 => ⟨S1x192x1x1, .f32⟩
  | 3 => ⟨S2x192x224x224, .f32⟩
  | 4 => ⟨S2x192x224x224, .f32⟩
  | 5 => ⟨S_, .i32⟩
  | 6 => ⟨S200x200, .i32⟩
  | 7 => ⟨S200x200, .i1⟩
  | 8 => ⟨S_, .i32⟩
  | 9 => ⟨S200x200, .i32⟩
  | 10 => ⟨S200x200, .i32⟩
  | 11 => ⟨S200x200, .i32⟩
  | 12 => ⟨S_, .i32⟩
  | 13 => ⟨S200x200, .i32⟩
  | 14 => ⟨S200x200, .i1⟩
  | 15 => ⟨S_, .i32⟩
  | 16 => ⟨S200x200, .i32⟩
  | 17 => ⟨S200x200, .i32⟩
  | 18 => ⟨S200x200, .i32⟩
  | 19 => ⟨S200x200x1, .i32⟩
  | 20 => ⟨S200x200x1, .i32⟩
  | 21 => ⟨S200x200x2, .i32⟩
  | 22 => ⟨S2x192x200x200, .f32⟩
  | 23 => ⟨S1x1x200x200, .i1⟩
  | 24 => ⟨S_, .f32⟩
  | 25 => ⟨S_, .f32⟩
  | 26 => ⟨S2x192x200x200, .i1⟩
  | 27 => ⟨S2x192x200x200, .f32⟩
  | 28 => ⟨S2x192x200x200, .f32⟩
  | _ => ⟨S2x3x224x224, .f32⟩

abbrev hbmTy (i : Nat) : BufTy := match i / 128 with
  | 0 => hbmTy0_0 i
  | 1 => hbmTy0_1 i
  | _ => ⟨S2x3x224x224, .f32⟩

abbrev bufTy : (tb : Table) → Fin (tcTables nBuf tb) → BufTy
  | .hbm, ⟨i, _⟩ => hbmTy i
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst : Ref sig .tc := ⟨.hbm, 71, rfl⟩
abbrev main_v57 : Ref sig .tc := ⟨.hbm, 72, rfl⟩
abbrev main_v58 : Ref sig .tc := ⟨.hbm, 73, rfl⟩
abbrev main_c_3 : Ref sig .tc := ⟨.hbm, 74, rfl⟩
abbrev main_call1_v0 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_c_4 : Ref sig .tc := ⟨.hbm, 133, rfl⟩
abbrev main_v116 : Ref sig .tc := ⟨.hbm, 134, rfl⟩
abbrev main_v117 : Ref sig .tc := ⟨.hbm, 135, rfl⟩
abbrev main_c_5 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_c_6 : Ref sig .tc := ⟨.hbm, 140, rfl⟩
abbrev main_v121 : Ref sig .tc := ⟨.hbm, 141, rfl⟩
abbrev main_v122 : Ref sig .tc := ⟨.hbm, 142, rfl⟩
abbrev main_c_7 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_cst_8 : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_v131 : Ref sig .tc := ⟨.hbm, 156, rfl⟩

abbrev nD : Nat := 1
abbrev τ : Topo := Topo.v7x

variable {F : FTy → Type} [FloatOps F]
-- ==== Proof.Run.lean ====
/- The kernel program's run, read at its result: the launch over the host stretches and the two kernels, with the
   result array at the contents the second kernel's output window leaves. -/
module

public import proofs.«01_k».proof.Proof.Gen.KernelIdeal.Frame

@[expose] public section

set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
namespace Cert.KernelIdeal.Run
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every execution ends with the result array at what the last segment's contents say. -/
theorem result : θ_run defs (onTc (τ := τ) (main (F := F))) ⟨m, fun _ => 0, ρ⟩ (fun r => ∀ c : Dev nD,
      r.2.mem ((c.tc : Thread nD τ).loc main_v57) = W5 m ρ c (Proc.devRef .tc main_v57)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => h c _ (mem_uc main_v57 (by decide)))

end Cert.KernelIdeal.Run
end
-- ==== Proof.Rows.lean ====
/- What the second kernel leaves in its output block: the first 101 rows are zero, and every later row is the
   row of features that the row's slot names, multiplied by the row's one-hot matrix. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Rows
open Cert.KernelIdeal Cert.KernelIdeal.Gen

/-- The slot of the feature array that output row `i` reads, for the rows from 101 on. -/
def slotOf (i : ℕ) : Fin 22 :=
  if i < 112 then Fin.ofNat 22 (i - 101) else if i < 114 then 11 else if i < 115 then 12 else if i < 117 then 13
  else if i < 119 then 14 else if i < 121 then 15 else if i < 125 then 16 else if i < 130 then 17
  else if i < 137 then 18 else if i < 150 then 19 else if i < 175 then 20 else 21

/-- One row of the output: the features of one slot times the one-hot matrix of the words `u` weighted by `w`. -/
theorem pay3_apply (a : Vec Ideal S1x1x96x224 .f32) (u : Vec Ideal S1x1x200 .i32) (w : Vec Ideal S1x1x200 .f32) (f : Fin 96) (j : Fin 200) :
    k1_pay3 (F := Ideal) a u w (ix4 0 f 0 j) = ∑ x : Fin 224, a (ix4 0 0 f x) * (if BitVec.ofNat 32 x.val = u (ix3 0 0 j) then w (ix3 0 0 j) else 0) := by
  pointwise [k1_pay3]
  refine Finset.sum_congr rfl fun x _ => ?_
  by_cases h : BitVec.ofNat 32 x.val = u (ix3 0 0 j)
  · rw [if_pos h, h]; simp [Scalar.select, IntOp.cmpi]
  · rw [if_neg h, mul_zero]
    have hb : (BitVec.ofNat 32 x.val == u (ix3 0 0 j)) = false := by simpa using h
    simp [Scalar.select, IntOp.cmpi, hb]

/-- The whole output block as one function of the three input blocks. -/
def blockVal (x0 : Vec Ideal S22x1x96x224 .f32) (x1 : Vec Ideal S200x1x200 .i32) (x2 : Vec Ideal S200x1x200 .f32) :
    S1x96x200x200.Idx → EReal := fun y =>
  if (y 2).val < 101 then 0
  else ∑ x : Fin 224, x0 (ix4 (slotOf (y 2).val) 0 (y 1) x)
    * (if BitVec.ofNat 32 x.val = x1 (ix3 (y 2) 0 (y 3)) then x2 (ix3 (y 2) 0 (y 3)) else 0)

/-- A row store is a block of `blockVal`. -/
theorem row_ok (arg2 : Memref sig .tc .vmem S22x1x96x224 .f32) (harg2 : arg2.IsWhole) (arg3 : Memref sig .tc .vmem S200x1x200 .i32) (harg3 : arg3.IsWhole) (arg4 : Memref sig .tc .vmem S200x1x200 .f32) (harg4 : arg4.IsWhole)
    (x0 : Vec Ideal S22x1x96x224 .f32) (x1 : Vec Ideal S200x1x200 .i32) (x2 : Vec Ideal S200x1x200 .f32)
    (L : List (View.Piece (Elt Ideal) S1x96x200x200 .f32)) (hL : View.PiecesOf (blockVal x0 x1 x2) L)
    (i k : ℕ) (inb : ∀ a, (![0, 0, i, 0] : Fin 4 → ℕ) a + S1x96x1x200.size a ≤ S1x96x200x200.size a)
    (p : FVec Ideal S1x96x1x200 .f32)
    (inb0 : ∀ a, (![k, 0, 0, 0] : Fin 4 → ℕ) a + S1x1x96x224.size a ≤ S22x1x96x224.size a)
    (inb1 : ∀ a, (![i, 0, 0] : Fin 3 → ℕ) a + S1x1x200.size a ≤ S200x1x200.size a)
    (hp : p = k1_pay3 (F := Ideal) (View.readAt (Elt Ideal) arg2.view (Rect.unit (s := S22x1x96x224) ![k, 0, 0, 0] S1x1x96x224.size inb0).toLoadRect (harg2.unread x0))
      (View.readAt (Elt Ideal) arg3.view (Rect.unit (s := S200x1x200) ![i, 0, 0] S1x1x200.size inb1).toLoadRect (harg3.unread x1))
      (View.readAt (Elt Ideal) arg4.view (Rect.unit (s := S200x1x200) ![i, 0, 0] S1x1x200.size inb1).toLoadRect (harg4.unread x2)))
    (hi : 101 ≤ i) (hk : (slotOf i).val = k) :
    View.PiecesOf (blockVal x0 x1 x2) (⟨Rect.unit (s := S1x96x200x200) ![0, 0, i, 0] S1x96x1x200.size inb, p⟩ :: L) := by
  refine ⟨fun x => ?_, hL⟩
  subst hp
  have h2 : i < 200 := by have := inb 2; simp at this; omega
  simp only [View.readAt_eq_ld, harg2.read_unread, harg3.read_unread, harg4.read_unread]
  obtain ⟨f, j, rfl⟩ : ∃ (f : Fin 96) (j : Fin 200), x = ix4 0 f 0 j := by
    refine ⟨x 1, x 3, funext fun a => ?_⟩
    match a with
    | ⟨0, _⟩ => exact Subsingleton.elim (α := Fin 1) _ _
    | ⟨1, _⟩ => rfl
    | ⟨2, _⟩ => exact Subsingleton.elim (α := Fin 1) _ _
    | ⟨3, _⟩ => rfl
  refine (pay3_apply _ _ _ f j).trans ?_
  have e : (Rect.unit (s := S1x96x200x200) ![0, 0, i, 0] S1x96x1x200.size inb).emb (ix4 0 f 0 j) = ix4 0 f ⟨i, h2⟩ j := by
    refine funext fun a => Fin.ext ((Rect.idx_unit_val _ _ _ _ a).trans ?_)
    match a with
    | ⟨0, _⟩ => rfl
    | ⟨1, _⟩ => exact Nat.zero_add _
    | ⟨2, _⟩ => rfl
    | ⟨3, _⟩ => exact Nat.zero_add _
  rw [e]
  have h1 : ∀ x : Fin 224, View.ld x0 (Rect.unit (s := S22x1x96x224) ![k, 0, 0, 0] S1x1x96x224.size inb0) (ix4 0 0 f x) = x0 (ix4 (slotOf i) 0 f x) := fun x => by
    refine View.ld_unit_apply_of _ _ _ _ _ _ fun a => ?_
    match a with
    | ⟨0, _⟩ => exact hk
    | ⟨1, _⟩ => rfl
    | ⟨2, _⟩ => exact (Nat.zero_add _).symm
    | ⟨3, _⟩ => exact (Nat.zero_add _).symm
  have h3 : ∀ {e} (z : Vec Ideal S200x1x200 e), View.ld z (Rect.unit (s := S200x1x200) ![i, 0, 0] S1x1x200.size inb1) (ix3 0 0 j) = z (ix3 ⟨i, h2⟩ 0 j) := fun z => by
    refine View.ld_unit_apply_of _ _ _ _ _ _ fun a => ?_
    match a with
    | ⟨0, _⟩ => rfl
    | ⟨1, _⟩ => rfl
    | ⟨2, _⟩ => exact (Nat.zero_add _).symm
  have hlt : ¬ i < 101 := by omega
  simp only [blockVal, ix4_1, ix4_2, ix4_3, hlt, if_false]
  refine Finset.sum_congr rfl fun x _ => ?_
  exact congrArg₂ (· * ·) (h1 x) (by rw [h3 x1, h3 x2]; rfl)

/-- The first store, of the rows below 101, is a block of `blockVal`. -/
theorem zero_ok (x0 : Vec Ideal S22x1x96x224 .f32) (x1 : Vec Ideal S200x1x200 .i32) (x2 : Vec Ideal S200x1x200 .f32)
    (inb : ∀ a, (![0, 0, 0, 0] : Fin 4 → ℕ) a + S1x96x101x200.size a ≤ S1x96x200x200.size a) (p : FVec Ideal S1x96x101x200 .f32)
    (hp : p = k1_pay2 (F := Ideal)) :
    View.PiecesOf (Val := Elt Ideal) (e := .f32) (blockVal x0 x1 x2) [⟨Rect.unit (s := S1x96x200x200) ![0, 0, 0, 0] S1x96x101x200.size inb, p⟩] := by
  refine ⟨fun x => ?_, trivial⟩
  subst hp
  have e : ((Rect.unit (s := S1x96x200x200) ![0, 0, 0, 0] S1x96x101x200.size inb).emb x 2).val < 101 :=
    lt_of_eq_of_lt ((Rect.idx_unit_val _ _ _ _ 2).trans (Nat.zero_add _)) (x 2).isLt
  refine Eq.trans ?_ (if_pos e).symm
  change k1_pay2 (F := Ideal) x = 0
  pointwise [k1_pay2]

set_option maxHeartbeats 2000000 in
/-- Every store of the body is a block of `blockVal`. -/
theorem pieces_ok (c : Dev nD) (i : grid1.Coords) (arg2 : Memref sig .tc .vmem S22x1x96x224 .f32) (harg2 : arg2.IsWhole) (arg3 : Memref sig .tc .vmem S200x1x200 .i32) (harg3 : arg3.IsWhole) (arg4 : Memref sig .tc .vmem S200x1x200 .f32) (harg4 : arg4.IsWhole) (arg5 : Memref sig .tc .vmem S1x96x200x200 .f32) (harg5 : arg5.IsWhole)
    (x0 : Vec Ideal S22x1x96x224 .f32) (x1 : Vec Ideal S200x1x200 .i32) (x2 : Vec Ideal S200x1x200 .f32) :
    View.PiecesOf (Val := Elt Ideal) (blockVal x0 x1 x2) (kernelRun1_A c i arg2 harg2 arg3 harg3 arg4 harg4 arg5 harg5 x0 x1 x2).1 := by
  unfold kernelRun1_A
  iterate 99 refine row_ok arg2 harg2 arg3 harg3 arg4 harg4 x0 x1 x2 _ ?_ _ _ _ _ _ _ rfl (by decide) (by decide)
  exact zero_ok x0 x1 x2 _ _ rfl

/-- The output block after the body is `blockVal` of the input blocks. -/
theorem out_eq (c : Dev nD) (i : grid1.Coords) (arg2 : Memref sig .tc .vmem S22x1x96x224 .f32) (harg2 : arg2.IsWhole) (arg3 : Memref sig .tc .vmem S200x1x200 .i32) (harg3 : arg3.IsWhole) (arg4 : Memref sig .tc .vmem S200x1x200 .f32) (harg4 : arg4.IsWhole) (arg5 : Memref sig .tc .vmem S1x96x200x200 .f32) (harg5 : arg5.IsWhole)
    (x0 : Vec Ideal S22x1x96x224 .f32) (x1 : Vec Ideal S200x1x200 .i32) (x2 : Vec Ideal S200x1x200 .f32) (y : S1x96x200x200.Idx) :
    out1_A_3 c i arg2 harg2 arg3 harg3 arg4 harg4 arg5 harg5 x0 x1 x2 y = blockVal x0 x1 x2 y := by
  unfold out1_A_3
  rw [View.read_writes_eq_canon _ _ _ (cover1_A_3 c i arg2 harg2 arg3 harg3 arg4 harg4 arg5 harg5 x0 x1 x2)]
  exact View.canon_apply_of_pieces _ _ (pieces_ok c i arg2 harg2 arg3 harg3 arg4 harg4 arg5 harg5 x0 x1 x2).mem y (cover1_A_3 c i arg2 harg2 arg3 harg3 arg4 harg4 arg5 harg5 x0 x1 x2 y)

end Cert.KernelIdeal.Rows
end
-- ==== Proof.Out.lean ====
/- The result array after the run, as a function of the feature array and the two tables the second kernel reads. -/
module

public import proofs.«01_k».proof.Proof.Rows

@[expose] public section

set_option maxRecDepth 16384
noncomputable section
open Idealize.ShloMosaic Idealize.ShloMosaic.TcCoe Idealize.SL.Sem
open Idealize.ShloMosaic.Pipeline (Dat)
namespace Cert.KernelIdeal.Out
open Cert.KernelIdeal Cert.KernelIdeal.Gen Cert.KernelIdeal.Rows

/-- The result array, from the feature array and the two tables. -/
def outVal (A : Vec Ideal S22x2x192x224 .f32) (U : Vec Ideal S200x1x200 .i32) (M : Vec Ideal S200x1x200 .f32) :
    Vec Ideal S2x192x200x200 .f32 := fun y =>
  if (y 2).val < 101 then 0
  else ∑ x : Fin 224, A (ix4 (slotOf (y 2).val) (y 0) (y 1) x)
    * (if BitVec.ofNat 32 x.val = U (ix3 (y 2) 0 (y 3)) then M (ix3 (y 2) 0 (y 3)) else 0)

/-- Which blocks the second kernel's windows take at a grid point. -/
theorem idx : ∀ t : Fin grid1.N,
    (win1_0.index t 0 = 0 ∧ win1_0.index t 1 = t.val / 2 ∧ win1_0.index t 2 = t.val % 2 ∧ win1_0.index t 3 = 0)
    ∧ (win1_1.index t 0 = 0 ∧ win1_1.index t 1 = 0 ∧ win1_1.index t 2 = 0)
    ∧ (win1_2.index t 0 = 0 ∧ win1_2.index t 1 = 0 ∧ win1_2.index t 2 = 0)
    ∧ (win1_3.index t 0 = t.val / 2 ∧ win1_3.index t 1 = t.val % 2 ∧ win1_3.index t 2 = 0 ∧ win1_3.index t 3 = 0) := by
  decide +kernel

variable (V : (c : Dev nD) → (b : Ref sig .tc) → Buf (Elt Ideal) ((c : Thread nD τ).loc b))

/-- The second kernel's output array after its four points. -/
theorem final (c : Dev nD) :
    (dat1 V c).arrAt 3 cfg1.N = outVal (V c main_v56) (V c main_c) (V c main_cst) := by
  refine (dat1 V c).arrAt_eq_of_covers 3 _ (by decide +kernel) fun t _ y => ?_
  blk_simp
  rw [after1_3]
  unfold outsAt1
  refine (out_eq c _ _ _ _ _ _ _ _ _ _ _ _ y).trans ?_
  obtain ⟨⟨a0, a1, a2, a3⟩, ⟨b0, b1, b2⟩, ⟨c0, c1, c2⟩, ⟨d0, d1, d2, d3⟩⟩ := idx t
  unfold blockVal outVal
  blk_simp [d0, d1, d2, d3]
  refine if_congr Iff.rfl rfl (Finset.sum_congr rfl fun x _ => ?_)
  blk_point [iblk1, a0, a1, a2, a3, b0, b1, b2, c0, c1, c2, d0, d1, d2, d3]
  all_goals blk_ext [a0, a1, a2, a3, b0, b1, b2, c0, c1, c2, d0, d1, d2, d3]

end Cert.KernelIdeal.Out
end
-- ==== Proof.Conv.lean ====
/- The first kernel's arithmetic, read at an index: two convolutions over a strip of five image rows, each written as
   one matrix product over stacked shifted rows, for two images side by side. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.KernelIdeal.Conv
open Cert.KernelIdeal Cert.KernelIdeal.Gen

/-- The 27 rows that the first convolution multiplies: for each tap, three channels of one shifted image row. -/
def patches (a : Fin 3 → Fin 3 → Vec Ideal S1x1x3x1x224 .f32) : FVec Ideal S27x224 .f32 :=
  concatenate S27x224 0 [⟨S3x224, shapeCast S3x224 (a 0 0) shapeCasts_S1x1x3x1x224_S3x224⟩,
    ⟨S3x224, shapeCast S3x224 (a 0 1) shapeCasts_S1x1x3x1x224_S3x224⟩,
    ⟨S3x224, shapeCast S3x224 (a 0 2) shapeCasts_S1x1x3x1x224_S3x224⟩,
    ⟨S3x224, shapeCast S3x224 (a 1 0) shapeCasts_S1x1x3x1x224_S3x224⟩,
    ⟨S3x224, shapeCast S3x224 (a 1 1) shapeCasts_S1x1x3x1x224_S3x224⟩,
    ⟨S3x224, shapeCast S3x224 (a 1 2) shapeCasts_S1x1x3x1x224_S3x224⟩,
    ⟨S3x224, shapeCast S3x224 (a 2 0) shapeCasts_S1x1x3x1x224_S3x224⟩,
    ⟨S3x224, shapeCast S3x224 (a 2 1) shapeCasts_S1x1x3x1x224_S3x224⟩,
    ⟨S3x224, shapeCast S3x224 (a 2 2) shapeCasts_S1x1x3x1x224_S3x224⟩]
    concatenates_S3x224_S3x224_S3x224_S3x224_S3x224_S3x224_S3x224_S3x224_S3x224_S27x224_d0

/-- The first convolution's row for two images side by side: product, bias, positive part. -/
def conv1 (v1 : FVec Ideal S128x27 .bf16) (v5 : FVec Ideal S128x1 .f32) (p q : FVec Ideal S27x224 .f32) : FVec Ideal S128x448 .f32 :=
  maximumf (addf (matmul dot_S128x27_S27x448_S128x448_1_0_0_1_n_n none v1
      (truncf .bf16 (concatenate S27x448 1 [⟨S27x224, p⟩, ⟨S27x224, q⟩] concatenates_S27x224_S27x224_S27x448_d1) bitsLt_bf16_f32)
      (constant S128x448 .f32 0x00000000#32))
    (broadcastTo S128x448 v5 broadcasts_S128x1_S128x448)) (broadcast S128x448 (Scalar.ofBits .f32 0x00000000#32))

/-- The first image's half of a row, with a zero column at each end. -/
def padL (o : FVec Ideal S128x448 .f32) : FVec Ideal S128x226 .bf16 :=
  truncf .bf16 (concatenate S128x226 1 [⟨S128x1, broadcast S128x1 (Scalar.ofBits .f32 0x00000000#32)⟩,
    ⟨S128x224, extractStridedSlice S128x224 ![0, 0] o slices_S128x448_o0_0_S128x224⟩,
    ⟨S128x1, broadcast S128x1 (Scalar.ofBits .f32 0x00000000#32)⟩] concatenates_S128x1_S128x224_S128x1_S128x226_d1) bitsLt_bf16_f32

/-- The second image's half of a row, with a zero column at each end. -/
def padR (o : FVec Ideal S128x448 .f32) : FVec Ideal S128x226 .bf16 :=
  truncf .bf16 (concatenate S128x226 1 [⟨S128x1, broadcast S128x1 (Scalar.ofBits .f32 0x00000000#32)⟩,
    ⟨S128x224, extractStridedSlice S128x224 ![0, 224] o slices_S128x448_o0_224_S128x224⟩,
    ⟨S128x1, broadcast S128x1 (Scalar.ofBits .f32 0x00000000#32)⟩] concatenates_S128x1_S128x224_S128x1_S128x226_d1) bitsLt_bf16_f32

/-- The 1152 rows that the second convolution multiplies: three shifts of each of three padded rows. -/
def stack (P : Fin 3 → FVec Ideal S128x226 .bf16) : FVec Ideal S1152x224 .bf16 :=
  concatenate S1152x224 0 [⟨S128x224, extractStridedSlice S128x224 ![0, 0] (P 0) slices_S128x226_o0_0_S128x224⟩,
    ⟨S128x224, extractStridedSlice S128x224 ![0, 1] (P 0) slices_S128x226_o0_1_S128x224⟩,
    ⟨S128x224, extractStridedSlice S128x224 ![0, 2] (P 0) slices_S128x226_o0_2_S128x224⟩,
    ⟨S128x224, extractStridedSlice S128x224 ![0, 0] (P 1) slices_S128x226_o0_0_S128x224⟩,
    ⟨S128x224, extractStridedSlice S128x224 ![0, 1] (P 1) slices_S128x226_o0_1_S128x224⟩,
    ⟨S128x224, extractStridedSlice S128x224 ![0, 2] (P 1) slices_S128x226_o0_2_S128x224⟩,
    ⟨S128x224, extractStridedSlice S128x224 ![0, 0] (P 2) slices_S128x226_o0_0_S128x224⟩,
    ⟨S128x224, extractStridedSlice S128x224 ![0, 1] (P 2) slices_S128x226_o0_1_S128x224⟩,
    ⟨S128x224, extractStridedSlice S128x224 ![0, 2] (P 2) slices_S128x226_o0_2_S128x224⟩]
    concatenates_S128x224_S128x224_S128x224_S128x224_S128x224_S128x224_S128x224_S128x224_S128x224_S1152x224_d0

/-- The second convolution's row for two images side by side: product and bias. -/
def conv2 (v3 : FVec Ideal S192x1152 .bf16) (v7 : FVec Ideal S192x1 .f32) (p q : FVec Ideal S1152x224 .bf16) : FVec Ideal S192x448 .f32 :=
  addf (matmul dot_S192x1152_S1152x448_S192x448_1_0_0_1_n_n none v3
      (concatenate S1152x448 1 [⟨S1152x224, p⟩, ⟨S1152x224, q⟩] concatenates_S1152x224_S1152x224_S1152x448_d1)
      (constant S192x448 .f32 0x00000000#32))
    (broadcastTo S192x448 v7 broadcasts_S192x1_S192x448)

/-- A sum over nine groups of `n`, as a sum over the two tap coordinates and the position in the group. -/
theorem sum_taps {N : ℕ} (n : ℕ) (hN : N = 9 * n) (f : Fin N → EReal) :
    ∑ k : Fin N, f k = ∑ ky : Fin 3, ∑ kx : Fin 3, ∑ c : Fin n,
      f ⟨(3 * ky.val + kx.val) * n + c.val, by
        have h : (3 * ky.val + kx.val) * n ≤ 8 * n := Nat.mul_le_mul_right _ (by omega)
        omega⟩ := by
  subst hN
  rw [← Equiv.sum_comp (finProdFinEquiv (m := 9) (n := n)) f, Fintype.sum_prod_type,
    ← Equiv.sum_comp (finProdFinEquiv (m := 3) (n := 3)) (fun t : Fin 9 => ∑ c : Fin n, f (finProdFinEquiv (t, c))),
    Fintype.sum_prod_type]
  refine Finset.sum_congr rfl fun ky _ => Finset.sum_congr rfl fun kx _ => Finset.sum_congr rfl fun c _ => ?_
  refine congrArg f (Fin.ext ?_)
  simp only [finProdFinEquiv_apply_val]
  ring

/-- One of the 27 rows. -/
theorem patches_apply (a : Fin 3 → Fin 3 → Vec Ideal S1x1x3x1x224 .f32) (ky kx c : Fin 3) (w : Fin 224) :
    patches a (ix2 ⟨(3 * ky.val + kx.val) * 3 + c.val, by omega⟩ w) = a ky kx (ix5 0 0 c 0 w) := by
  fin_cases ky <;> fin_cases kx <;> fin_cases c <;> pointwise [patches]

/-- A shifted row at an index. -/
theorem shift_apply (x : FVec Ideal S128x226 .bf16) (n : ℕ) (hn : n ≤ 2) (h : Shape.Slices S128x226 ![0, n] S128x224) (c : Fin 128) (w : Fin 224) :
    extractStridedSlice S128x224 ![0, n] x h (ix2 c w) = x (ix2 c ⟨w.val + n, by omega⟩) := by
  pointwise []
  exact congrArg x (congrArg (ix2 c) (Fin.ext (Nat.add_comm _ _)))

/-- One of the 1152 rows, as the piece of the stack it lies in. -/
theorem stack_piece (P : Fin 3 → FVec Ideal S128x226 .bf16) (ky kx : Fin 3) (c : Fin 128) (w : Fin 224)
    (k : ℕ) (hkk : k = 3 * ky.val + kx.val) (x : FVec Ideal S128x224 .bf16)
    (hx : x (ix2 c w) = P ky (ix2 c ⟨w.val + kx.val, by omega⟩))
    (L : List ((s : Shape) × (s.Idx → Ideal .bf16))) (hL : Shape.Concatenates (L.map (·.1)) S1152x224 0)
    (hn : k < L.length) (hp : L[k] = ⟨S128x224, x⟩)
    (hpre : (((L.take k).map (·.1)).map fun s => if h : s.rank = S1152x224.rank then s.size ((0 : Fin S1152x224.rank).cast h.symm) else 0).sum = 128 * k) :
    concatenate S1152x224 0 L hL (ix2 ⟨(3 * ky.val + kx.val) * 128 + c.val, by omega⟩ w) = P ky (ix2 c ⟨w.val + kx.val, by omega⟩) := by
  refine (concatenate_apply_piece (t := S1152x224) 0 L hL _ k hn S128x224 x hp rfl (128 * k) hpre (ix2 c w) (fun b hb => ?_) ?_).trans hx
  · match b with
    | ⟨0, _⟩ => exact absurd rfl hb
    | ⟨1, _⟩ => rfl
  · change 128 * k + c.val = (3 * ky.val + kx.val) * 128 + c.val
    omega

/-- One of the 1152 rows. -/
theorem stack_apply (P : Fin 3 → FVec Ideal S128x226 .bf16) (ky kx : Fin 3) (c : Fin 128) (w : Fin 224) :
    stack P (ix2 ⟨(3 * ky.val + kx.val) * 128 + c.val, by omega⟩ w) = P ky (ix2 c ⟨w.val + kx.val, by omega⟩) := by
  unfold stack
  fin_cases ky <;> fin_cases kx
  · exact stack_piece P 0 0 c w 0 rfl _ (shift_apply _ _ (by decide) _ c w) _ _ (by simp) rfl rfl
  · exact stack_piece P 0 1 c w 1 rfl _ (shift_apply _ _ (by decide) _ c w) _ _ (by simp) rfl rfl
  · exact stack_piece P 0 2 c w 2 rfl _ (shift_apply _ _ (by decide) _ c w) _ _ (by simp) rfl rfl
  · exact stack_piece P 1 0 c w 3 rfl _ (shift_apply _ _ (by decide) _ c w) _ _ (by simp) rfl rfl
  · exact stack_piece P 1 1 c w 4 rfl _ (shift_apply _ _ (by decide) _ c w) _ _ (by simp) rfl rfl
  · exact stack_piece P 1 2 c w 5 rfl _ (shift_apply _ _ (by decide) _ c w) _ _ (by simp) rfl rfl
  · exact stack_piece P 2 0 c w 6 rfl _ (shift_apply _ _ (by decide) _ c w) _ _ (by simp) rfl rfl
  · exact stack_piece P 2 1 c w 7 rfl _ (shift_apply _ _ (by decide) _ c w) _ _ (by simp) rfl rfl
  · exact stack_piece P 2 2 c w 8 rfl _ (shift_apply _ _ (by decide) _ c w) _ _ (by simp) rfl rfl

/-- The first image's padded row at an index. -/
theorem padL_apply (o : FVec Ideal S128x448 .f32) (c : Fin 128) (q : Fin 226) :
    padL o (ix2 c q) = if h : 1 ≤ q.val ∧ q.val ≤ 224 then o (ix2 c ⟨q.val - 1, by omega⟩) else 0 := by
  pointwise [padL]
  by_cases h1 : q.val < 1
  · rw [dif_pos h1, dif_neg (by omega)]
  · rw [dif_neg h1]
    by_cases h2 : q.val - 1 < 224
    · rw [dif_pos h2, dif_pos (by omega)]
    · rw [dif_neg h2, dif_neg (by omega)]

/-- The second image's padded row at an index. -/
theorem padR_apply (o : FVec Ideal S128x448 .f32) (c : Fin 128) (q : Fin 226) :
    padR o (ix2 c q) = if h : 1 ≤ q.val ∧ q.val ≤ 224 then o (ix2 c ⟨224 + (q.val - 1), by omega⟩) else 0 := by
  pointwise [padR]
  by_cases h1 : q.val < 1
  · rw [dif_pos h1, dif_neg (by omega)]
  · rw [dif_neg h1]
    by_cases h2 : q.val - 1 < 224
    · rw [dif_pos h2, dif_pos (by omega)]
    · rw [dif_neg h2, dif_neg (by omega)]

/-- The first convolution's row on the first image. -/
theorem conv1_left (v1 : FVec Ideal S128x27 .bf16) (v5 : FVec Ideal S128x1 .f32) (p q : FVec Ideal S27x224 .f32) (o : Fin 128) (w : Fin 224) :
    conv1 v1 v5 p q (ix2 o ⟨w.val, by omega⟩) = max ((∑ k : Fin 27, v1 (ix2 o k) * p (ix2 k w)) + v5 (ix2 o 0)) 0 := by
  pointwise [conv1]

/-- The first convolution's row on the second image. -/
theorem conv1_right (v1 : FVec Ideal S128x27 .bf16) (v5 : FVec Ideal S128x1 .f32) (p q : FVec Ideal S27x224 .f32) (o : Fin 128) (w : Fin 224) :
    conv1 v1 v5 p q (ix2 o ⟨224 + w.val, by omega⟩) = max ((∑ k : Fin 27, v1 (ix2 o k) * q (ix2 k w)) + v5 (ix2 o 0)) 0 := by
  pointwise [conv1]

/-- The second convolution's row on the first image. -/
theorem conv2_left (v3 : FVec Ideal S192x1152 .bf16) (v7 : FVec Ideal S192x1 .f32) (p q : FVec Ideal S1152x224 .bf16) (o : Fin 192) (w : Fin 224) :
    conv2 v3 v7 p q (ix2 o ⟨w.val, by omega⟩) = (∑ k : Fin 1152, v3 (ix2 o k) * p (ix2 k w)) + v7 (ix2 o 0) := by
  pointwise [conv2]

/-- The second convolution's row on the second image. -/
theorem conv2_right (v3 : FVec Ideal S192x1152 .bf16) (v7 : FVec Ideal S192x1 .f32) (p q : FVec Ideal S1152x224 .bf16) (o : Fin 192) (w : Fin 224) :
    conv2 v3 v7 p q (ix2 o ⟨224 + w.val, by omega⟩) = (∑ k : Fin 1152, v3 (ix2 o k) * q (ix2 k w)) + v7 (ix2 o 0) := by
  pointwise [conv2]

end Cert.KernelIdeal.Conv
end
-- ==== Proof.Strip.lean ====
/- What the first kernel leaves in its output block at one grid point, as a function of the five blocks it reads. -/
module

public import proofs.«01_k».proof.Proof.Conv

@[expose] public section

set_option maxRecDepth 16384
noncomputable section
open Idealize.ShloMosaic Idealize.ShloMosaic.TcCoe Idealize.SL.Sem
open Idealize.ShloMosaic.Pipeline (Dat)
namespace Cert.KernelIdeal.Strip
open Cert.KernelIdeal Cert.KernelIdeal.Gen Cert.KernelIdeal.Conv

/-- A tap's rectangle lies in the strip. -/
theorem tap_inb (b : Fin 2) (s : Fin 5) (kx : Fin 3) :
    ∀ a, (![0, b.val, 0, s.val, kx.val] : Fin 5 → ℕ) a + S1x1x3x1x224.size a ≤ S1x2x3x5x226.size a := by
  revert b s kx
  decide

/-- Row `s` of image `b`'s strip, shifted by `kx` columns. -/
def tap (x0 : Vec Ideal S1x2x3x5x226 .f32) (b : Fin 2) (s : Fin 5) (kx : Fin 3) : Vec Ideal S1x1x3x1x224 .f32 :=
  View.ld x0 (Rect.unit (s := S1x2x3x5x226) ![0, b.val, 0, s.val, kx.val] S1x1x3x1x224.size (tap_inb b s kx))

/-- A shifted row of the strip at an index. -/
theorem tap_apply (x0 : Vec Ideal S1x2x3x5x226 .f32) (b : Fin 2) (s : Fin 5) (kx c : Fin 3) (w : Fin 224) :
    tap x0 b s kx (ix5 0 0 c 0 w) = x0 (ix5 0 b c s ⟨w.val + kx.val, by omega⟩) := by
  unfold tap
  refine View.ld_unit_apply_of _ _ _ _ _ _ fun a => ?_
  match a with
  | ⟨0, _⟩ => rfl
  | ⟨1, _⟩ => rfl
  | ⟨2, _⟩ => exact (Nat.zero_add _).symm
  | ⟨3, _⟩ => rfl
  | ⟨4, _⟩ => exact Nat.add_comm _ _

variable (x0 : Vec Ideal S1x2x3x5x226 .f32) (x1 : Vec Ideal S128x27 .bf16) (x2 : Vec Ideal S128x1 .f32)
  (x3 : Vec Ideal S192x1152 .bf16) (x4 : Vec Ideal S192x1 .f32)

/-- The first convolution's row `r`, for both images. -/
def row (r : Fin 3) : FVec Ideal S128x448 .f32 :=
  conv1 (k0_pay49 x0 x1 x2 x3 x4) (k0_pay51 x0 x1 x2 x3 x4)
    (patches fun ky kx => tap x0 0 ⟨r.val + ky.val, by omega⟩ kx) (patches fun ky kx => tap x0 1 ⟨r.val + ky.val, by omega⟩ kx)

/-- The second convolution's row, for both images. -/
def row2 : FVec Ideal S192x448 .f32 :=
  conv2 (k0_pay50 x0 x1 x2 x3 x4) (k0_pay52 x0 x1 x2 x3 x4)
    (stack fun r => padL (row x0 x1 x2 x3 x4 r)) (stack fun r => padR (row x0 x1 x2 x3 x4 r))

/-- What the kernel's stores write, spelt with the operations above. -/
theorem out_pieces : out0_5 x0 x1 x2 x3 x4
    = View.canon [⟨r0_35, k0_pay2 (row2 x0 x1 x2 x3 x4)⟩,
        ⟨r0_34, k0_pay1 (extractStridedSlice S192x224 ![0, 0] (row2 x0 x1 x2 x3 x4) slices_S192x448_o0_0_S192x224)⟩] := rfl

/-- The first convolution after its positive part and its zero columns: image `b`, channel `o`, row `r` of three,
    column `q` of 226. -/
def padRow (b : Fin 2) (o : Fin 128) (r : Fin 3) (q : Fin 226) : EReal :=
  if h : 1 ≤ q.val ∧ q.val ≤ 224 then
    max ((∑ ky : Fin 3, ∑ kx : Fin 3, ∑ c : Fin 3, x1 (ix2 o ⟨(3 * ky.val + kx.val) * 3 + c.val, by omega⟩)
      * x0 (ix5 0 b c ⟨r.val + ky.val, by omega⟩ ⟨q.val - 1 + kx.val, by omega⟩)) + x2 (ix2 o 0)) 0
  else 0

/-- The block that one grid point leaves. -/
def stripVal : Vec Ideal S1x2x192x224 .f32 := fun y =>
  (∑ ky : Fin 3, ∑ kx : Fin 3, ∑ c : Fin 128, x3 (ix2 (y 2) ⟨(3 * ky.val + kx.val) * 128 + c.val, by omega⟩)
    * padRow x0 x1 x2 (y 1) c ky ⟨(y 3).val + kx.val, by have := (y 3).isLt; change (y 3).val < 224 at this; omega⟩) + x4 (ix2 (y 2) 0)

/-- The first weights, as the products read them. -/
theorem w1_apply (o : Fin 128) (k : Fin 27) : k0_pay49 x0 x1 x2 x3 x4 (ix2 o k) = x1 (ix2 o k) := by
  unfold k0_pay49 k0_pay3; pointwise []

/-- The second weights, as the products read them. -/
theorem w2_apply (o : Fin 192) (k : Fin 1152) : k0_pay50 x0 x1 x2 x3 x4 (ix2 o k) = x3 (ix2 o k) := by
  unfold k0_pay50 k0_pay4; pointwise []

/-- The first bias, as the rows read it. -/
theorem b1_apply (o : Fin 128) : k0_pay51 x0 x1 x2 x3 x4 (ix2 o 0) = x2 (ix2 o 0) := by
  unfold k0_pay51 k0_pay5; pointwise []

/-- The second bias, as the block reads it. -/
theorem b2_apply (o : Fin 192) : k0_pay52 x0 x1 x2 x3 x4 (ix2 o 0) = x4 (ix2 o 0) := by
  unfold k0_pay52 k0_pay6; pointwise []

/-- The padded row of the first image. -/
theorem rowL_apply (o : Fin 128) (r : Fin 3) (q : Fin 226) :
    padL (row x0 x1 x2 x3 x4 r) (ix2 o q) = padRow x0 x1 x2 0 o r q := by
  rw [padL_apply]
  unfold padRow
  split_ifs with h
  · unfold row
    refine (conv1_left _ _ _ _ o ⟨q.val - 1, by omega⟩).trans ?_
    rw [sum_taps 3 rfl]
    simp only [patches_apply, tap_apply, w1_apply, b1_apply]
  · rfl

/-- The padded row of the second image. -/
theorem rowR_apply (o : Fin 128) (r : Fin 3) (q : Fin 226) :
    padR (row x0 x1 x2 x3 x4 r) (ix2 o q) = padRow x0 x1 x2 1 o r q := by
  rw [padR_apply]
  unfold padRow
  split_ifs with h
  · unfold row
    refine (conv1_right _ _ _ _ o ⟨q.val - 1, by omega⟩).trans ?_
    rw [sum_taps 3 rfl]
    simp only [patches_apply, tap_apply, w1_apply, b1_apply]
  · rfl

/-- The second convolution's row on the first image. -/
theorem row2_left (f : Fin 192) (w : Fin 224) :
    row2 x0 x1 x2 x3 x4 (ix2 f ⟨w.val, by omega⟩) = stripVal x0 x1 x2 x3 x4 (ix4 0 0 f w) := by
  unfold row2
  refine (conv2_left _ _ _ _ f w).trans ?_
  rw [sum_taps 128 rfl]
  simp only [stack_apply, rowL_apply, w2_apply, b2_apply]
  rfl

/-- The second convolution's row on the second image. -/
theorem row2_right (f : Fin 192) (w : Fin 224) :
    row2 x0 x1 x2 x3 x4 (ix2 f ⟨224 + w.val, by omega⟩) = stripVal x0 x1 x2 x3 x4 (ix4 0 1 f w) := by
  unfold row2
  refine (conv2_right _ _ _ _ f w).trans ?_
  rw [sum_taps 128 rfl]
  simp only [stack_apply, rowR_apply, w2_apply, b2_apply]
  rfl

/-- The half of the block that image `b` fills. -/
theorem half_ok (b : Fin 2) (inb : ∀ a, (![0, b.val, 0, 0] : Fin 4 → ℕ) a + S1x1x192x224.size a ≤ S1x2x192x224.size a)
    (p : FVec Ideal S1x1x192x224 .f32) (hp : ∀ f w, p (ix4 0 0 f w) = stripVal x0 x1 x2 x3 x4 (ix4 0 b f w)) (x : S1x1x192x224.Idx) :
    p x = stripVal x0 x1 x2 x3 x4 ((Rect.unit (s := S1x2x192x224) ![0, b.val, 0, 0] S1x1x192x224.size inb).emb x) := by
  obtain ⟨f, w, rfl⟩ : ∃ (f : Fin 192) (w : Fin 224), x = ix4 0 0 f w := by
    refine ⟨x 2, x 3, funext fun a => ?_⟩
    match a with
    | ⟨0, _⟩ => exact Subsingleton.elim (α := Fin 1) _ _
    | ⟨1, _⟩ => exact Subsingleton.elim (α := Fin 1) _ _
    | ⟨2, _⟩ => rfl
    | ⟨3, _⟩ => rfl
  refine (hp f w).trans (congrArg _ (funext fun a => Fin.ext (Eq.symm ((Rect.idx_unit_val _ _ _ _ a).trans ?_))))
  match a with
  | ⟨0, _⟩ => rfl
  | ⟨1, _⟩ => rfl
  | ⟨2, _⟩ => exact Nat.zero_add _
  | ⟨3, _⟩ => exact Nat.zero_add _

/-- What the first store writes, at an index. -/
theorem first_apply (v : FVec Ideal S192x448 .f32) (f : Fin 192) (w : Fin 224) :
    k0_pay1 (extractStridedSlice S192x224 ![0, 0] v slices_S192x448_o0_0_S192x224) (ix4 0 0 f w) = v (ix2 f ⟨w.val, by omega⟩) := by
  pointwise [k0_pay1]

/-- What the second store writes, at an index. -/
theorem second_apply (v : FVec Ideal S192x448 .f32) (f : Fin 192) (w : Fin 224) :
    k0_pay2 v (ix4 0 0 f w) = v (ix2 f ⟨224 + w.val, by omega⟩) := by
  pointwise [k0_pay2]

/-- The block that one grid point leaves is `stripVal` of the blocks it reads. -/
theorem out_eq (y : S1x2x192x224.Idx) : out0_5 x0 x1 x2 x3 x4 y = stripVal x0 x1 x2 x3 x4 y := by
  rw [out_pieces]
  have h : View.PiecesOf (Val := Elt Ideal) (e := .f32) (stripVal x0 x1 x2 x3 x4) [⟨r0_35, k0_pay2 (row2 x0 x1 x2 x3 x4)⟩,
        ⟨r0_34, k0_pay1 (extractStridedSlice S192x224 ![0, 0] (row2 x0 x1 x2 x3 x4) slices_S192x448_o0_0_S192x224)⟩] :=
    ⟨half_ok x0 x1 x2 x3 x4 1 (by decide) _ fun f w => (second_apply _ f w).trans (row2_right x0 x1 x2 x3 x4 f w),
      half_ok x0 x1 x2 x3 x4 0 (by decide) _ fun f w => (first_apply _ f w).trans (row2_left x0 x1 x2 x3 x4 f w), trivial⟩
  exact View.canon_apply_of_pieces _ _ h.mem y (cover0_5 _ _ y)

/-- The feature array, from the strips, the weights and the biases. -/
def featVal (X : Vec Ideal S22x2x3x5x226 .f32) (w1 : Vec Ideal S128x27 .bf16) (b1 : Vec Ideal S128x1 .f32)
    (w2 : Vec Ideal S192x1152 .bf16) (b2 : Vec Ideal S192x1 .f32) : Vec Ideal S22x2x192x224 .f32 := fun y =>
  stripVal (fun i => X (ix5 (y 0) (i 1) (i 2) (i 3) (i 4))) w1 b1 w2 b2 (ix4 0 (y 1) (y 2) (y 3))

/-- Which blocks the first kernel's windows take at a grid point. -/
theorem idx : ∀ t : Fin grid0.N,
    (win0_0.index t 0 = t.val ∧ win0_0.index t 1 = 0 ∧ win0_0.index t 2 = 0 ∧ win0_0.index t 3 = 0 ∧ win0_0.index t 4 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0 ∧ win0_5.index t 2 = 0 ∧ win0_5.index t 3 = 0) := by
  decide +kernel

variable (V : (c : Dev nD) → (b : Ref sig .tc) → Buf (Elt Ideal) ((c : Thread nD τ).loc b))

/-- The first kernel's output array after its 22 points. -/
theorem final (c : Dev nD) :
    (dat0 V c).arrAt 5 cfg0.N = featVal (V c main_v55) (V c main_v2) (V c main_v6) (V c main_v5) (V c main_v7) := by
  refine (dat0 V c).arrAt_eq_of_covers 5 _ (by decide +kernel) fun t _ y => ?_
  blk_simp
  rw [after0_5]
  refine (out_eq _ _ _ _ _ y).trans ?_
  obtain ⟨⟨a0, a1, a2, a3, a4⟩, ⟨b0, b1⟩, ⟨c0, c1⟩, ⟨d0, d1⟩, ⟨e0, e1⟩, ⟨f0, f1, f2, f3⟩⟩ := idx t
  have hx : iblk0 V c 0 t = fun i => V c main_v55 (ix5 ⟨t.val, t.isLt⟩ (i 1) (i 2) (i 3) (i 4)) := by
    refine funext fun i => ?_
    blk_point [iblk0, a0, a1, a2, a3, a4]
  have h1 : iblk0 V c 1 t = V c main_v2 := by
    refine funext fun i => ?_
    blk_point [iblk0, b0, b1]
  have h2 : iblk0 V c 2 t = V c main_v6 := by
    refine funext fun i => ?_
    blk_point [iblk0, c0, c1]
  have h3 : iblk0 V c 3 t = V c main_v5 := by
    refine funext fun i => ?_
    blk_point [iblk0, d0, d1]
  have h4 : iblk0 V c 4 t = V c main_v7 := by
    refine funext fun i => ?_
    blk_point [iblk0, e0, e1]
  have hy : (win0_5.blk t).view.emb y = ix4 ⟨t.val, t.isLt⟩ (y 1) (y 2) (y 3) := by
    blk_ext [f0, f1, f2, f3]
  have hz : y = ix4 0 (y 1) (y 2) (y 3) := by
    funext a
    match a with
    | ⟨0, _⟩ => exact Subsingleton.elim (α := Fin 1) _ _
    | ⟨1, _⟩ => rfl
    | ⟨2, _⟩ => rfl
    | ⟨3, _⟩ => rfl
  rw [hx, h1, h2, h3, h4]
  refine Eq.trans ?_ (congrArg (featVal (V c main_v55) (V c main_v2) (V c main_v6) (V c main_v5) (V c main_v7)) hy).symm
  exact congrArg (stripVal _ _ _ _ _) hz

end Cert.KernelIdeal.Strip
end
-- ==== Proof.Host.lean ====
/- What the host operations before the first kernel leave in the arrays it reads: the strips of image rows, and the
   weights and biases laid out for matrix products. -/
module

public import proofs.«01_k».proof.Proof.Gen.KernelIdeal.Frame
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.KernelIdeal.Host
open Cert.KernelIdeal Cert.KernelIdeal.Gen

variable (m : (ℓ : Loc nD τ sig) → Buf (Elt Ideal) ℓ) (ρ : Dev nD → PrngReg)

/-- The first image row of each strip: two rows above the feature row that the strip serves. -/
def base : Fin 22 → ℕ := ![10, 50, 67, 76, 82, 87, 90, 92, 94, 95, 97, 98, 99, 100, 101, 102, 103, 104, 105, 106, 107, 108]

/-- Every strip lies in the images. -/
theorem base_slices (k : Fin 22) : Shape.Slices S2x3x224x226 ![0, 0, base k, 0] S2x3x5x226 := by
  revert k; decide +kernel

/-- No strip starts below row 108. -/
theorem base_le (k : Fin 22) : base k ≤ 108 := by revert k; decide

/-- No strip starts above row 10. -/
theorem ten_le_base (k : Fin 22) : 10 ≤ base k := by revert k; decide

/-- One strip of five rows of both images. -/
def strip (P : FVec Ideal S2x3x224x226 .f32) (k : Fin 22) : FVec Ideal S1x2x3x5x226 .f32 :=
  broadcastInDim S1x2x3x5x226 ![1, 2, 3, 4] bcast_S2x3x5x226_S1x2x3x5x226_1_2_3_4
    (extractStridedSlice S2x3x5x226 ![0, 0, base k, 0] P (base_slices k))

/-- One strip at an index. -/
theorem strip_apply (P : FVec Ideal S2x3x224x226 .f32) (k : Fin 22) (b : Fin 2) (c : Fin 3) (s : Fin 5) (w : Fin 226) :
    strip P k (ix5 0 b c s w) = P (ix4 b c ⟨base k + s.val, by have := base_le k; omega⟩ w) := by
  pointwise [strip]

/-- The 22 strips stacked. -/
def strips (P : FVec Ideal S2x3x224x226 .f32) : FVec Ideal S22x2x3x5x226 .f32 :=
  concatenate S22x2x3x5x226 0 [
    ⟨S16x2x3x5x226, concatenate S16x2x3x5x226 0 [⟨S1x2x3x5x226, strip P 0⟩, ⟨S1x2x3x5x226, strip P 1⟩, ⟨S1x2x3x5x226, strip P 2⟩, ⟨S1x2x3x5x226, strip P 3⟩, ⟨S1x2x3x5x226, strip P 4⟩, ⟨S1x2x3x5x226, strip P 5⟩, ⟨S1x2x3x5x226, strip P 6⟩, ⟨S1x2x3x5x226, strip P 7⟩, ⟨S1x2x3x5x226, strip P 8⟩, ⟨S1x2x3x5x226, strip P 9⟩, ⟨S1x2x3x5x226, strip P 10⟩, ⟨S1x2x3x5x226, strip P 11⟩, ⟨S1x2x3x5x226, strip P 12⟩, ⟨S1x2x3x5x226, strip P 13⟩, ⟨S1x2x3x5x226, strip P 14⟩, ⟨S1x2x3x5x226, strip P 15⟩]
      concatenates_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S16x2x3x5x226_d0⟩,
    ⟨S6x2x3x5x226, concatenate S6x2x3x5x226 0 [⟨S1x2x3x5x226, strip P 16⟩, ⟨S1x2x3x5x226, strip P 17⟩, ⟨S1x2x3x5x226, strip P 18⟩, ⟨S1x2x3x5x226, strip P 19⟩, ⟨S1x2x3x5x226, strip P 20⟩, ⟨S1x2x3x5x226, strip P 21⟩]
      concatenates_S1x2x3x5x226_S1x2x3x5x226_S1x2x3x5x226_S1x2x3x5x226_S1x2x3x5x226_S1x2x3x5x226_S6x2x3x5x226_d0⟩]
    concatenates_S16x2x3x5x226_S6x2x3x5x226_S22x2x3x5x226_d0

/-- The stack of the strips at an index. -/
theorem strips_apply (P : FVec Ideal S2x3x224x226 .f32) (k : Fin 22) (b : Fin 2) (c : Fin 3) (s : Fin 5) (w : Fin 226) :
    strips P (ix5 k b c s w) = P (ix4 b c ⟨base k + s.val, by have := base_le k; omega⟩ w) := by
  have e : strips P = concatenate S22x2x3x5x226 0 [
      ⟨S16x2x3x5x226, concatenate S16x2x3x5x226 0 (List.ofFn fun n : Fin 16 => (⟨S1x2x3x5x226, strip P (n.castLE (by decide))⟩ : (s : Shape) × (s.Idx → Ideal .f32)))
        concatenates_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S1x2x3x5x226_S16x2x3x5x226_d0⟩,
      ⟨S6x2x3x5x226, concatenate S6x2x3x5x226 0 (List.ofFn fun n : Fin 6 => (⟨S1x2x3x5x226, strip P (n.natAdd 16)⟩ : (s : Shape) × (s.Idx → Ideal .f32)))
        concatenates_S1x2x3x5x226_S1x2x3x5x226_S1x2x3x5x226_S1x2x3x5x226_S1x2x3x5x226_S1x2x3x5x226_S6x2x3x5x226_d0⟩]
      concatenates_S16x2x3x5x226_S6x2x3x5x226_S22x2x3x5x226_d0 := rfl
  rw [e]
  pointwise []
  by_cases h : k.val < 16
  · rw [dif_pos h]
    exact strip_apply P k b c s w
  · rw [dif_neg h]
    refine Eq.trans ?_ (strip_apply P k b c s w)
    exact congrArg (fun k => strip P k (ix5 0 b c s w)) (Fin.ext (by simp; omega))

/-- The images with a zero column on each side. -/
def wide (x : FVec Ideal S2x3x224x224 .f32) : FVec Ideal S2x3x224x226 .f32 :=
  pad S2x3x224x226 ![0, 0, 0, 1] ![0, 0, 0, 1] ![0, 0, 0, 0] x (sitofp .f32 (constantI S_ 32 0#32)) pads_S2x3x224x224_S2x3x224x226_000_000_000_110 h_S_

/-- The integer zero, converted, is zero. -/
theorem sitofp_zero : FloatOps.sitofp (F := Ideal) FTy.f32 (0#32) = 0 := by
  change (((0#32 : BitVec 32).toInt : ℝ) : EReal) = 0
  simp

/-- The widened images at an index. -/
theorem wide_apply (x : FVec Ideal S2x3x224x224 .f32) (b : Fin 2) (c : Fin 3) (h : Fin 224) (w : Fin 226) :
    wide x (ix4 b c h w) = if hw : 1 ≤ w.val ∧ w.val ≤ 224 then x (ix4 b c h ⟨w.val - 1, by omega⟩) else 0 := by
  pointwise [wide]
  by_cases hw : 1 ≤ w.val ∧ w.val ≤ 224
  · rw [dif_pos hw, dif_pos (by omega)]
  · rw [dif_neg hw, dif_neg (by omega)]
    exact sitofp_zero

/-- The widened images, as the slices read them. -/
theorem v8_eq (c : Dev nD) : W2 m ρ c (Proc.devRef .tc main_v8) = wide (m ((c : Thread nD τ).loc main_arg0)) := by
  unfold W2 W1
  after_results_simp
  rfl

/-- The first convolution's weights as a matrix: taps, then channels, along the second axis. -/
def mat1 (x : FVec Ideal S128x3x3x3 .f32) : FVec Ideal S128x27 .bf16 :=
  truncf .bf16 (shapeCast S128x27 (transpose S128x3x3x3 [0, 2, 3, 1] x transposes_S128x3x3x3_S128x3x3x3_0_2_3_1) shapeCasts_S128x3x3x3_S128x27) bitsLt_bf16_f32

/-- The second convolution's weights as a matrix: taps, then channels, along the second axis. -/
def mat2 (x : FVec Ideal S192x128x3x3 .f32) : FVec Ideal S192x1152 .bf16 :=
  truncf .bf16 (shapeCast S192x1152 (transpose S192x3x3x128 [0, 2, 3, 1] x transposes_S192x128x3x3_S192x3x3x128_0_2_3_1) shapeCasts_S192x3x3x128_S192x1152) bitsLt_bf16_f32

/-- The first weights' matrix at an index. -/
theorem mat1_apply (x : FVec Ideal S128x3x3x3 .f32) (o : Fin 128) (ky kx c : Fin 3) :
    mat1 x (ix2 o ⟨(3 * ky.val + kx.val) * 3 + c.val, by omega⟩) = x (ix4 o c ky kx) := by
  pointwise [mat1]

/-- The second weights' matrix at an index. -/
theorem mat2_apply (x : FVec Ideal S192x128x3x3 .f32) (o : Fin 192) (ky kx : Fin 3) (c : Fin 128) :
    mat2 x (ix2 o ⟨(3 * ky.val + kx.val) * 128 + c.val, by omega⟩) = x (ix4 o c ky kx) := by
  pointwise [mat2]

/-- The first weights as the first kernel reads them. -/
theorem v2_eq (c : Dev nD) : V3 m ρ c main_v2 = mat1 (m ((c : Thread nD τ).loc main_arg5)) := by
  refine ((W3_of m ρ c main_v2 (by decide)).trans (W2_of m ρ c main_v2 (by decide))).trans ?_
  unfold W1
  after_results_simp
  rfl

/-- The second weights as the first kernel reads them. -/
theorem v5_eq (c : Dev nD) : V3 m ρ c main_v5 = mat2 (m ((c : Thread nD τ).loc main_arg7)) := by
  refine ((W3_of m ρ c main_v5 (by decide)).trans (W2_of m ρ c main_v5 (by decide))).trans ?_
  unfold W1
  after_results_simp
  rfl

/-- The first bias as the first kernel reads it. -/
theorem v6_apply (c : Dev nD) (o : Fin 128) : V3 m ρ c main_v6 (ix2 o 0) = m ((c : Thread nD τ).loc main_arg6) (ix1 o) := by
  have e : V3 m ρ c main_v6 = shapeCast S128x1 (m ((c : Thread nD τ).loc main_arg6) : FVec Ideal S128 .f32) shapeCasts_S128_S128x1 := by
    refine ((W3_of m ρ c main_v6 (by decide)).trans (W2_of m ρ c main_v6 (by decide))).trans ?_
    unfold W1
    after_results_simp
    rfl
  rw [e]
  pointwise []

/-- The second bias as the first kernel reads it. -/
theorem v7_apply (c : Dev nD) (o : Fin 192) : V3 m ρ c main_v7 (ix2 o 0) = m ((c : Thread nD τ).loc main_arg8) (ix1 o) := by
  have e : V3 m ρ c main_v7 = shapeCast S192x1 (m ((c : Thread nD τ).loc main_arg8) : FVec Ideal S192 .f32) shapeCasts_S192_S192x1 := by
    refine ((W3_of m ρ c main_v7 (by decide)).trans (W2_of m ρ c main_v7 (by decide))).trans ?_
    unfold W1
    after_results_simp
    rfl
  rw [e]
  pointwise []

/-- The table of columns that the second kernel reads. -/
theorem c_eq (c : Dev nD) : V4 m ρ c main_c = (fun i => lit0 (S200x1x200.rowMajor i) : Vec Ideal S200x1x200 .i32) := by
  refine (W4_of m ρ c main_c (by decide)).trans (((W3_of m ρ c main_c (by decide)).trans (W2_of m ρ c main_c (by decide))).trans ?_)
  unfold W1
  after_results_simp
  rfl

/-- The table of weights that the second kernel reads. -/
theorem cst_eq (c : Dev nD) : V4 m ρ c main_cst = (fun i => FloatOps.ofBits (F := Ideal) .f32 (lit1 (S200x1x200.rowMajor i)) : Vec Ideal S200x1x200 .f32) := by
  refine (W4_of m ρ c main_cst (by decide)).trans (((W3_of m ρ c main_cst (by decide)).trans (W2_of m ρ c main_cst (by decide))).trans ?_)
  unfold W1
  after_results_simp
  rfl

end Cert.KernelIdeal.Host
end
-- ==== Proof.Ref.lean ====
/- The reference's arithmetic, read at an index: two 3 × 3 convolutions of zero-padded images, then one feature column
   taken for each output cell. -/
module

public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.ReferenceIdeal.Ref
open Cert.ReferenceIdeal Cert.ReferenceIdeal.Gen

/-- The images with one zero column or row on each side. -/
def padX (x : FVec Ideal S2x3x224x224 .f32) : FVec Ideal S2x3x226x226 .f32 :=
  pad S2x3x226x226 ![0, 0, 1, 1] ![0, 0, 1, 1] ![0, 0, 0, 0] x (sitofp .f32 (constantI S_ 32 0#32)) pads_S2x3x224x224_S2x3x226x226_000_000_110_110 h_S_

/-- The first layer with one zero column or row on each side. -/
def padY (x : FVec Ideal S2x128x224x224 .f32) : FVec Ideal S2x128x226x226 .f32 :=
  pad S2x128x226x226 ![0, 0, 1, 1] ![0, 0, 1, 1] ![0, 0, 0, 0] x (sitofp .f32 (constantI S_ 32 0#32)) pads_S2x128x224x224_S2x128x226x226_000_000_110_110 h_S_

/-- Every tap's window lies in the padded images. -/
theorem winX (ky kx : Fin 3) : S2x3x226x226.Slices ![0, 0, ky.val, kx.val] S2x3x224x224 := by
  revert ky kx; decide

/-- Every tap lies in the first weights. -/
theorem winW (ky kx : Fin 3) : S128x3x3x3.Slices ![0, 0, ky.val, kx.val] S128x3x1x1 := by
  revert ky kx; decide

/-- Every tap's window lies in the padded first layer. -/
theorem winY (ky kx : Fin 3) : S2x128x226x226.Slices ![0, 0, ky.val, kx.val] S2x128x224x224 := by
  revert ky kx; decide

/-- Every tap lies in the second weights. -/
theorem winW' (ky kx : Fin 3) : S192x128x3x3.Slices ![0, 0, ky.val, kx.val] S192x128x1x1 := by
  revert ky kx; decide

/-- One tap of the first convolution: a shifted window against that tap's weights, summed over channels. -/
def tap1 (P : FVec Ideal S2x3x226x226 .f32) (w : FVec Ideal S128x3x3x3 .f32) (ky kx : Fin 3) : FVec Ideal S2x128x224x224 .f32 :=
  transpose S2x128x224x224 [0, 3, 1, 2] (Host.dotGeneral (F := Ideal) dot_S2x3x224x224_S128x3_S2x224x224x128_1_1_023_0_n_n none
    (extractStridedSlice S2x3x224x224 ![0, 0, ky.val, kx.val] P (winX ky kx))
    (shapeCast S128x3 (extractStridedSlice S128x3x1x1 ![0, 0, ky.val, kx.val] w (winW ky kx)) shapeCasts_S128x3x1x1_S128x3))
    transposes_S2x224x224x128_S2x128x224x224_0_3_1_2

/-- One tap of the second convolution. -/
def tap2 (P : FVec Ideal S2x128x226x226 .f32) (w : FVec Ideal S192x128x3x3 .f32) (ky kx : Fin 3) : FVec Ideal S2x192x224x224 .f32 :=
  transpose S2x192x224x224 [0, 3, 1, 2] (Host.dotGeneral (F := Ideal) dot_S2x128x224x224_S192x128_S2x224x224x192_1_1_023_0_n_n none
    (extractStridedSlice S2x128x224x224 ![0, 0, ky.val, kx.val] P (winY ky kx))
    (shapeCast S192x128 (extractStridedSlice S192x128x1x1 ![0, 0, ky.val, kx.val] w (winW' ky kx)) shapeCasts_S192x128x1x1_S192x128))
    transposes_S2x224x224x192_S2x192x224x224_0_3_1_2

/-- Nine arrays added up, row by row of taps. -/
def nine {s : Shape} (t : Fin 3 → Fin 3 → FVec Ideal s .f32) : FVec Ideal s .f32 :=
  addf (addf (addf (addf (addf (addf (addf (addf (t 0 0) (t 0 1)) (t 0 2)) (t 1 0)) (t 1 1)) (t 1 2)) (t 2 0)) (t 2 1)) (t 2 2)

/-- The first layer: convolution, bias, positive part. -/
def ref1 (x : FVec Ideal S2x3x224x224 .f32) (w : FVec Ideal S128x3x3x3 .f32) (b : FVec Ideal S128 .f32) : FVec Ideal S2x128x224x224 .f32 :=
  maximumf (addf (nine (tap1 (padX x) w))
      (broadcastInDim S2x128x224x224 ![0, 1, 2, 3] bcast_S1x128x1x1_S2x128x224x224_0_1_2_3 (broadcastInDim S1x128x1x1 ![1] bcast_S128_S1x128x1x1_1 b)))
    (broadcastInDim S2x128x224x224 ![] bcast_S_S2x128x224x224 (constant S_ .f32 0x00000000#32))

/-- The second layer: convolution and bias. -/
def ref2 (y : FVec Ideal S2x128x224x224 .f32) (w : FVec Ideal S192x128x3x3 .f32) (b : FVec Ideal S192 .f32) : FVec Ideal S2x192x224x224 .f32 :=
  addf (nine (tap2 (padY y) w))
    (broadcastInDim S2x192x224x224 ![0, 1, 2, 3] bcast_S1x192x1x1_S2x192x224x224_0_1_2_3 (broadcastInDim S1x192x1x1 ![1] bcast_S192_S1x192x1x1_1 b))

/-- A table of positions, negative ones counted from the end. -/
def wrap (t : IVec S200x200 32) : IVec S200x200 32 :=
  select (cmpi .slt t (broadcastInDim S200x200 ![] bcast_S_S200x200 (constantI S_ 32 0#32)))
    (addi t (broadcastInDim S200x200 ![] bcast_S_S200x200 (constantI S_ 32 224#32))) t

/-- The feature position of every output cell: row from the table `v`, column from the table `u`. -/
def cells (v u : IVec S200x200 32) : IVec S200x200x2 32 :=
  concatenate S200x200x2 2 [⟨S200x200x1, broadcastInDim S200x200x1 ![0, 1] bcast_S200x200_S200x200x1_0_1 (wrap v)⟩,
    ⟨S200x200x1, broadcastInDim S200x200x1 ![0, 1] bcast_S200x200_S200x200x1_0_1 (wrap u)⟩] concatenates_S200x200x1_S200x200x1_S200x200x2_d2

/-- The output: the feature column at each visible cell, zero elsewhere. -/
def refOut (f : FVec Ideal S2x192x224x224 .f32) (v u : IVec S200x200 32) (k : IVec S200x200 1) : FVec Ideal S2x192x200x200 .f32 :=
  select (broadcastInDim S2x192x200x200 ![0, 1, 2, 3] bcast_S1x1x200x200_S2x192x200x200_0_1_2_3 (broadcastInDim S1x1x200x200 ![2, 3] bcast_S200x200_S1x1x200x200_2_3 k))
    (Host.gather gather_S2x192x224x224_S200x200x2_S2x192x200x200_01_23_n_n_23_2_219211 f (cells v u))
    (broadcastInDim S2x192x200x200 ![] bcast_S_S2x192x200x200 (id (constant S_ .f32 0x00000000#32)))

/-- The reference's result as these layers. -/
theorem res_eq (m : (ℓ : Loc nD τ sig) → Buf (Elt Ideal) ℓ) (c : Dev nD) :
    Value.res_main_v131 m c
      = refOut (ref2 (ref1 (m ((c.tc : Thread nD τ).loc main_arg0)) (m ((c.tc : Thread nD τ).loc main_arg5)) (m ((c.tc : Thread nD τ).loc main_arg6)))
          (m ((c.tc : Thread nD τ).loc main_arg7)) (m ((c.tc : Thread nD τ).loc main_arg8)))
        (fun i => lit1 (S200x200.rowMajor i)) (fun i => lit0 (S200x200.rowMajor i)) (fun i => lit2 (S200x200.rowMajor i)) := by
  rfl

/-- Nine arrays added up, at an index. -/
theorem nine_apply {s : Shape} (t : Fin 3 → Fin 3 → FVec Ideal s .f32) (i : s.Idx) :
    nine t i = ∑ ky : Fin 3, ∑ kx : Fin 3, t ky kx i := by
  simp only [Fin.sum_univ_three]
  show (t 0 0 i + t 0 1 i + t 0 2 i + t 1 0 i + t 1 1 i + t 1 2 i + t 2 0 i + t 2 1 i + t 2 2 i : EReal) = _
  simp only [add_assoc]

/-- The integer zero that pads the arrays, as a number. -/
theorem sitofp_zero : FloatOps.sitofp (F := Ideal) FTy.f32 (0#32) = 0 := by
  change (((0#32 : BitVec 32).toInt : ℝ) : EReal) = 0
  simp

/-- The padded images at an index. -/
theorem padX_apply (x : FVec Ideal S2x3x224x224 .f32) (b : Fin 2) (c : Fin 3) (h w : Fin 226) :
    padX x (ix4 b c h w) = if hw : (1 ≤ h.val ∧ h.val ≤ 224) ∧ 1 ≤ w.val ∧ w.val ≤ 224 then
      x (ix4 b c ⟨h.val - 1, by omega⟩ ⟨w.val - 1, by omega⟩) else 0 := by
  pointwise [padX]
  by_cases hw : (1 ≤ h.val ∧ h.val ≤ 224) ∧ 1 ≤ w.val ∧ w.val ≤ 224
  · rw [dif_pos hw, dif_pos (by omega)]
  · rw [dif_neg hw, dif_neg (by omega)]
    exact sitofp_zero

/-- The padded first layer at an index. -/
theorem padY_apply (x : FVec Ideal S2x128x224x224 .f32) (b : Fin 2) (c : Fin 128) (h w : Fin 226) :
    padY x (ix4 b c h w) = if hw : (1 ≤ h.val ∧ h.val ≤ 224) ∧ 1 ≤ w.val ∧ w.val ≤ 224 then
      x (ix4 b c ⟨h.val - 1, by omega⟩ ⟨w.val - 1, by omega⟩) else 0 := by
  pointwise [padY]
  by_cases hw : (1 ≤ h.val ∧ h.val ≤ 224) ∧ 1 ≤ w.val ∧ w.val ≤ 224
  · rw [dif_pos hw, dif_pos (by omega)]
  · rw [dif_neg hw, dif_neg (by omega)]
    exact sitofp_zero

/-- One tap of the first convolution at an index. -/
theorem tap1_apply (P : FVec Ideal S2x3x226x226 .f32) (w : FVec Ideal S128x3x3x3 .f32) (ky kx : Fin 3)
    (b : Fin 2) (o : Fin 128) (h x : Fin 224) :
    tap1 P w ky kx (ix4 b o h x)
      = ∑ c : Fin 3, P (ix4 b c ⟨h.val + ky.val, by omega⟩ ⟨x.val + kx.val, by omega⟩) * w (ix4 o c ky kx) := by
  pointwise [tap1]
  simp only [Nat.add_comm]

/-- One tap of the second convolution at an index. -/
theorem tap2_apply (P : FVec Ideal S2x128x226x226 .f32) (w : FVec Ideal S192x128x3x3 .f32) (ky kx : Fin 3)
    (b : Fin 2) (o : Fin 192) (h x : Fin 224) :
    tap2 P w ky kx (ix4 b o h x)
      = ∑ c : Fin 128, P (ix4 b c ⟨h.val + ky.val, by omega⟩ ⟨x.val + kx.val, by omega⟩) * w (ix4 o c ky kx) := by
  pointwise [tap2]
  simp only [Nat.add_comm]

/-- The first layer at an index. -/
theorem ref1_apply (x : FVec Ideal S2x3x224x224 .f32) (w : FVec Ideal S128x3x3x3 .f32) (b : FVec Ideal S128 .f32)
    (n : Fin 2) (o : Fin 128) (h q : Fin 224) :
    ref1 x w b (ix4 n o h q)
      = max ((∑ ky : Fin 3, ∑ kx : Fin 3, ∑ c : Fin 3,
          padX x (ix4 n c ⟨h.val + ky.val, by omega⟩ ⟨q.val + kx.val, by omega⟩) * w (ix4 o c ky kx)) + b (ix1 o)) 0 := by
  have e : nine (tap1 (padX x) w) (ix4 n o h q) = _ := nine_apply (tap1 (padX x) w) (ix4 n o h q)
  simp only [tap1_apply] at e
  rw [← e]
  unfold ref1
  generalize nine (tap1 (padX x) w) = N
  pointwise []

/-- The second layer at an index. -/
theorem ref2_apply (y : FVec Ideal S2x128x224x224 .f32) (w : FVec Ideal S192x128x3x3 .f32) (b : FVec Ideal S192 .f32)
    (n : Fin 2) (o : Fin 192) (h q : Fin 224) :
    ref2 y w b (ix4 n o h q)
      = (∑ ky : Fin 3, ∑ kx : Fin 3, ∑ c : Fin 128,
          padY y (ix4 n c ⟨h.val + ky.val, by omega⟩ ⟨q.val + kx.val, by omega⟩) * w (ix4 o c ky kx)) + b (ix1 o) := by
  have e : nine (tap2 (padY y) w) (ix4 n o h q) = _ := nine_apply (tap2 (padY y) w) (ix4 n o h q)
  simp only [tap2_apply] at e
  rw [← e]
  unfold ref2
  generalize nine (tap2 (padY y) w) = N
  pointwise []

/-- A table of positions at an index, when the entry is not negative. -/
theorem wrap_apply (t : IVec S200x200 32) (i : S200x200.Idx) (h : 0 ≤ (t i).toInt) : wrap t i = t i := by
  show Scalar.select (Scalar.cmpi .slt (t i) 0#32) _ (t i) = t i
  have e : (t i).slt 0#32 = false := by simp [BitVec.slt, h]
  have e' : IntOp.cmpi .slt (t i) 0#32 = 0#1 := by simp [IntOp.cmpi, e]
  simp [Scalar.cmpi, Scalar.select, e']

/-- The gather at an output index: the feature column that the cell's two positions name. -/
theorem gather_apply (f : FVec Ideal S2x192x224x224 .f32) (t : IVec S200x200x2 32)
    (n : Fin 2) (o : Fin 192) (i j : Fin 200) (V U : Fin 224)
    (hV : t (ix3 i j 0) = BitVec.ofNat 32 V.val) (hU : t (ix3 i j 1) = BitVec.ofNat 32 U.val) :
    Host.gather gather_S2x192x224x224_S200x200x2_S2x192x200x200_01_23_n_n_23_2_219211 f t (ix4 n o i j) = f (ix4 n o V U) := by
  have hk : ∀ V : Fin 224, min (BitVec.ofNat 32 V.val).toInt.toNat 223 = V.val := by decide
  unfold Host.gather
  refine congrArg f (funext fun a => Fin.ext ?_)
  show GatherDims.start _ _ t a + GatherDims.batchCoord _ _ a + GatherDims.offCoord _ _ a = _
  rw [GatherDims.batchCoord_eq_zero _ _ _ List.not_mem_nil]
  match a with
  | ⟨0, _⟩ => exact Nat.zero_add _
  | ⟨1, _⟩ => exact Nat.zero_add _
  | ⟨2, _⟩ =>
    refine Eq.trans ?_ (hk V)
    rw [← hV]
    show GatherDims.start gather_S2x192x224x224_S200x200x2_S2x192x200x200_01_23_n_n_23_2_219211 _ t (2 : Fin 4) + 0
      + GatherDims.offCoord gather_S2x192x224x224_S200x200x2_S2x192x200x200_01_23_n_n_23_2_219211 _ (2 : Fin 4) = _
    rw [GatherDims.offCoord_eq_zero gather_S2x192x224x224_S200x200x2_S2x192x200x200_01_23_n_n_23_2_219211 _ (2 : Fin 4) (by decide), Nat.add_zero]
    unfold GatherDims.start
    rw [dif_pos (by decide)]
    refine congrArg (fun q => min (t q).toInt.toNat 223) (funext fun b => Fin.ext ?_)
    match b with
    | ⟨0, _⟩ => rfl
    | ⟨1, _⟩ => rfl
    | ⟨2, _⟩ => rfl
  | ⟨3, _⟩ =>
    refine Eq.trans ?_ (hk U)
    rw [← hU]
    show GatherDims.start gather_S2x192x224x224_S200x200x2_S2x192x200x200_01_23_n_n_23_2_219211 _ t (3 : Fin 4) + 0
      + GatherDims.offCoord gather_S2x192x224x224_S200x200x2_S2x192x200x200_01_23_n_n_23_2_219211 _ (3 : Fin 4) = _
    rw [GatherDims.offCoord_eq_zero gather_S2x192x224x224_S200x200x2_S2x192x200x200_01_23_n_n_23_2_219211 _ (3 : Fin 4) (by decide), Nat.add_zero]
    unfold GatherDims.start
    rw [dif_pos (by decide)]
    refine congrArg (fun q => min (t q).toInt.toNat 223) (funext fun b => Fin.ext ?_)
    match b with
    | ⟨0, _⟩ => rfl
    | ⟨1, _⟩ => rfl
    | ⟨2, _⟩ => rfl

/-- The output at a cell: the gathered entry where the mask holds, zero elsewhere. -/
theorem refOut_apply (f : FVec Ideal S2x192x224x224 .f32) (v u : IVec S200x200 32) (k : IVec S200x200 1)
    (n : Fin 2) (o : Fin 192) (i j : Fin 200) :
    refOut f v u k (ix4 n o i j) = if k (ix2 i j) = 1#1 then
      Host.gather gather_S2x192x224x224_S200x200x2_S2x192x200x200_01_23_n_n_23_2_219211 f (cells v u) (ix4 n o i j) else 0 := by
  unfold refOut
  generalize Host.gather gather_S2x192x224x224_S200x200x2_S2x192x200x200_01_23_n_n_23_2_219211 f (cells v u) = G
  pointwise []
  exact congrArg (fun z : EReal => if k (ix2 i j) = 1#1 then G (ix4 n o i j) else z) Ideal.ofBits_zero_f32

/-- The output at a visible cell, whose tables name the position `(V, U)`. -/
theorem refOut_on (f : FVec Ideal S2x192x224x224 .f32) (v u : IVec S200x200 32) (k : IVec S200x200 1)
    (n : Fin 2) (o : Fin 192) (i j : Fin 200) (V U : Fin 224) (hk : k (ix2 i j) = 1#1)
    (hV : v (ix2 i j) = BitVec.ofNat 32 V.val) (hU : u (ix2 i j) = BitVec.ofNat 32 U.val) :
    refOut f v u k (ix4 n o i j) = f (ix4 n o V U) := by
  have hn : ∀ V : Fin 224, 0 ≤ (BitVec.ofNat 32 V.val).toInt := by decide
  have cV : cells v u (ix3 i j 0) = BitVec.ofNat 32 V.val := by
    have e : cells v u (ix3 i j 0) = wrap v (ix2 i j) := by
      unfold cells
      generalize wrap v = a
      generalize wrap u = b
      pointwise []
    rw [e, wrap_apply v _ (by rw [hV]; exact hn V), hV]
  have cU : cells v u (ix3 i j 1) = BitVec.ofNat 32 U.val := by
    have e : cells v u (ix3 i j 1) = wrap u (ix2 i j) := by
      unfold cells
      generalize wrap v = a
      generalize wrap u = b
      pointwise []
    rw [e, wrap_apply u _ (by rw [hU]; exact hn U), hU]
  rw [refOut_apply, if_pos hk]
  exact gather_apply f (cells v u) n o i j V U cV cU

end Cert.ReferenceIdeal.Ref
end
-- ==== Proof.Equation.lean ====
/- The features that the first kernel computes are the reference's features at the rows that the output reads. -/
module

public import proofs.«01_k».proof.Proof.Strip
public import proofs.«01_k».proof.Proof.Host
public import proofs.«01_k».proof.Proof.Ref

@[expose] public section

set_option maxRecDepth 16384
noncomputable section
open Idealize.ShloMosaic Idealize.ShloMosaic.TcCoe Idealize.SL.Sem
namespace Cert.Equation
open Cert.KernelIdeal Cert.KernelIdeal.Host Cert.KernelIdeal.Strip Cert.ReferenceIdeal.Ref

variable (X : FVec Ideal S2x3x224x224 .f32) (w1 : FVec Ideal S128x3x3x3 .f32) (b1 : FVec Ideal S128 .f32)
  (w2 : FVec Ideal S192x128x3x3 .f32) (b2 : FVec Ideal S192 .f32)
  (c1 : Vec Ideal S128x1 .f32) (c2 : Vec Ideal S192x1 .f32)

/-- An image entry in a strip is the padded image's entry, one row further down. -/
theorem pixel_eq (k : Fin 22) (n : Fin 2) (c r ky kx : Fin 3) (q : Fin 224) :
    strips (wide X) (ix5 k n c ⟨r.val + ky.val, by omega⟩ ⟨q.val + kx.val, by omega⟩)
      = padX X (ix4 n c ⟨base k + 1 + r.val + ky.val, by have := base_le k; omega⟩ ⟨q.val + kx.val, by omega⟩) := by
  have := base_le k
  refine (strips_apply (wide X) k n c ⟨r.val + ky.val, by omega⟩ ⟨q.val + kx.val, by omega⟩).trans ?_
  rw [wide_apply, padX_apply]
  by_cases hq : 1 ≤ q.val + kx.val ∧ q.val + kx.val ≤ 224
  · rw [dif_pos hq, dif_pos ⟨⟨by simp only; omega, by simp only; omega⟩, hq⟩]
    congr 2
    simp only [Fin.mk.injEq]
    omega
  · rw [dif_neg hq, dif_neg fun h => hq h.2]

/-- A row of the first layer, as the first kernel pads it, is a row of the reference's padded first layer. -/
theorem row_eq (h1 : ∀ o : Fin 128, c1 (ix2 o 0) = b1 (ix1 o)) (k : Fin 22) (n : Fin 2) (o : Fin 128) (r : Fin 3) (q : Fin 226) :
    padRow (fun i => strips (wide X) (ix5 k (i 1) (i 2) (i 3) (i 4))) (mat1 w1) c1 n o r q
      = padY (ref1 X w1 b1) (ix4 n o ⟨base k + 2 + r.val, by have := base_le k; omega⟩ q) := by
  have := base_le k
  unfold padRow
  rw [padY_apply]
  by_cases hq : 1 ≤ q.val ∧ q.val ≤ 224
  · rw [dif_pos hq, dif_pos ⟨⟨by simp only; omega, by simp only; omega⟩, hq⟩, ref1_apply, h1]
    refine congrArg (fun s : EReal => max (s + b1 (ix1 o)) 0) (Finset.sum_congr rfl fun ky _ => Finset.sum_congr rfl fun kx _ =>
      Finset.sum_congr rfl fun c _ => ?_)
    refine (mul_comm _ _).trans ?_
    rw [mat1_apply]
    refine congrArg (fun s : EReal => s * w1 (ix4 o c ky kx)) ?_
    refine (pixel_eq X k n c r ky kx ⟨q.val - 1, by omega⟩).trans ?_
    congr 2
    simp only [Fin.mk.injEq]
    omega
  · rw [dif_neg hq, dif_neg fun h => hq h.2]

/-- The first kernel's features of a slot are the reference's features of the row that the slot stands for. -/
theorem feat_eq (h1 : ∀ o : Fin 128, c1 (ix2 o 0) = b1 (ix1 o)) (h2 : ∀ o : Fin 192, c2 (ix2 o 0) = b2 (ix1 o))
    (k : Fin 22) (n : Fin 2) (o : Fin 192) (x : Fin 224) :
    featVal (strips (wide X)) (mat1 w1) c1 (mat2 w2) c2 (ix4 k n o x)
      = ref2 (ref1 X w1 b1) w2 b2 (ix4 n o ⟨base k + 2, by have := base_le k; omega⟩ x) := by
  rw [ref2_apply]
  show (∑ ky : Fin 3, ∑ kx : Fin 3, ∑ c : Fin 128, mat2 w2 (ix2 o ⟨(3 * ky.val + kx.val) * 128 + c.val, by omega⟩)
    * padRow (fun i => strips (wide X) (ix5 k (i 1) (i 2) (i 3) (i 4))) (mat1 w1) c1 n c ky ⟨x.val + kx.val, by omega⟩) + c2 (ix2 o 0) = _
  rw [h2]
  refine congrArg (fun s : EReal => s + b2 (ix1 o)) (Finset.sum_congr rfl fun ky _ => Finset.sum_congr rfl fun kx _ =>
    Finset.sum_congr rfl fun c _ => ?_)
  rw [mat2_apply, row_eq X w1 b1 c1 h1]
  exact mul_comm _ _

end Cert.Equation
end
-- ==== Proof.Strips.lean ====
/- The stack of image strips that the first kernel reads, as a function of the images. -/
module

public import proofs.«01_k».proof.Proof.Host

@[expose] public section

set_option maxRecDepth 16384
noncomputable section
open Idealize.ShloMosaic Idealize.ShloMosaic.TcCoe Idealize.SL.Sem
open Idealize.ShloMosaic.Pipeline (Dat)
namespace Cert.KernelIdeal.Host
open Cert.KernelIdeal Cert.KernelIdeal.Gen

variable (m : (ℓ : Loc nD τ sig) → Buf (Elt Ideal) ℓ) (ρ : Dev nD → PrngReg)

set_option maxHeartbeats 1000000 in
/-- What the slices, the broadcasts and the three concatenations leave. -/
theorem v55_eq (c : Dev nD) : V3 m ρ c main_v55 = strips (wide (m ((c : Thread nD τ).loc main_arg0))) := by
  refine Eq.trans ?_ (congrArg strips (v8_eq m ρ c))
  change W3 m ρ c (Proc.devRef .tc main_v55) = _
  unfold W3
  after_results_simp
  rfl

end Cert.KernelIdeal.Host
end
-- ==== Proof.Tables.lean ====
/- The position tables that the two programs carry: what they hold, and how they agree. -/
module

public import proofs.«01_k».proof.Proof.Gen.ReferenceIdeal.Run
public import proofs.«01_k».proof.Proof.Rows
public import proofs.«01_k».proof.Proof.Host

@[expose] public section

set_option maxRecDepth 16384
noncomputable section
open Idealize.ShloMosaic
namespace Cert.Tables
open Cert.KernelIdeal.Rows (slotOf)
open Cert.KernelIdeal.Host (base)

/-- The check of one output cell of row `i`, from the reference's mask `k`, the kernel's weight `w`, the feature column
    `u` and the feature row `r`. Where the mask holds: the weight is one, the row is one that the kernel computes, the
    column lies in the image and the feature row is `v`. Where it fails: the weight is zero, or the row is one that the
    kernel fills with zeros. -/
def check (v i : ℕ) (k : BitVec 1) (w u r : BitVec 32) : Bool :=
  cond (Nat.beq k.toNat 1)
    (Nat.ble 101 i && Nat.beq w.toNat 0x3F800000 && Nat.blt u.toNat 224 && Nat.beq r.toNat v)
    (Nat.blt i 101 || Nat.beq w.toNat 0)

/-- What a passed check says where the mask holds. -/
theorem check_on {v i : ℕ} {k : BitVec 1} {w u r : BitVec 32} (h : check v i k w u r = true) (hk : k = 1#1) :
    101 ≤ i ∧ w = 0x3F800000#32 ∧ u.toNat < 224 ∧ r.toNat = v := by
  subst hk
  have h' : (((Nat.ble 101 i && Nat.beq w.toNat 0x3F800000) && Nat.blt u.toNat 224) && Nat.beq r.toNat v) = true := h
  simp only [Bool.and_eq_true, Nat.ble_eq, Nat.beq_eq, Nat.blt_eq] at h'
  exact ⟨h'.1.1.1, BitVec.eq_of_toNat_eq h'.1.1.2, h'.1.2, h'.2⟩

/-- What a passed check says where the mask fails. -/
theorem check_off {v i : ℕ} {k : BitVec 1} {w u r : BitVec 32} (h : check v i k w u r = true) (hk : k ≠ 1#1) :
    i < 101 ∨ w = 0#32 := by
  have e : Nat.beq k.toNat 1 = false := by
    rw [Bool.eq_false_iff]
    exact fun q => hk (BitVec.eq_of_toNat_eq (Nat.eq_of_beq_eq_true q))
  unfold check at h
  rw [e] at h
  have h' : (Nat.blt i 101 || Nat.beq w.toNat 0) = true := h
  simp only [Bool.or_eq_true, Nat.beq_eq, Nat.blt_eq] at h'
  exact h'.imp id fun q => BitVec.eq_of_toNat_eq q

/-- The check of one output row: every cell of it, with the middle row of its strip as the feature row. -/
def rowOk (i : ℕ) : Bool := (List.range 200).all fun j =>
  check (base (slotOf i) + 2) i (ReferenceIdeal.lit2t (200 * i + j)) (KernelIdeal.lit1t (200 * i + j))
    (ReferenceIdeal.lit0t (200 * i + j)) (ReferenceIdeal.lit1t (200 * i + j))

set_option maxHeartbeats 40000000 in
/-- Every output row passes the check. -/
theorem rows (i : ℕ) (h : i < 200) : rowOk i = true := by
  interval_cases i <;> decide +kernel

/-- Every output cell passes the check. -/
theorem cell_ok (i j : Fin 200) :
    check (base (slotOf i.val) + 2) i.val (ReferenceIdeal.lit2t (200 * i.val + j.val)) (KernelIdeal.lit1t (200 * i.val + j.val))
      (ReferenceIdeal.lit0t (200 * i.val + j.val)) (ReferenceIdeal.lit1t (200 * i.val + j.val)) = true :=
  List.all_eq_true.mp (rows i.val i.isLt) j.val (List.mem_range.mpr j.isLt)

/-- The place of a cell in the kernel's tables. -/
theorem kcell (i j : Fin 200) : (KernelIdeal.S200x1x200.rowMajor (ix3 i 0 j)).val = 200 * i.val + j.val := by
  refine (Shape.rowMajor_val_three _).trans ?_
  show (i.val * 1 + 0) * 200 + j.val = _
  omega

/-- The place of a cell in the reference's tables. -/
theorem rcell (i j : Fin 200) : (ReferenceIdeal.S200x200.rowMajor (ix2 i j)).val = 200 * i.val + j.val := by
  refine (Shape.rowMajor_val_two _).trans ?_
  show i.val * 200 + j.val = _
  omega

/-- The two programs hold the same table of feature columns. -/
theorem column_eq : KernelIdeal.lit0t = ReferenceIdeal.lit0t := by rfl

/-- The kernel's table of feature columns at a cell. -/
theorem column_at (i j : Fin 200) :
    KernelIdeal.lit0 (KernelIdeal.S200x1x200.rowMajor (ix3 i 0 j)) = ReferenceIdeal.lit0t (200 * i.val + j.val) := by
  have e : (KernelIdeal.S200x1x200.rowMajor (ix3 i 0 j)).val = 200 * i.val + j.val := kcell i j
  exact (congrArg KernelIdeal.lit0t e).trans (congrFun column_eq _)

/-- The kernel's table of weights at a cell. -/
theorem weight_at (i j : Fin 200) :
    KernelIdeal.lit1 (KernelIdeal.S200x1x200.rowMajor (ix3 i 0 j)) = KernelIdeal.lit1t (200 * i.val + j.val) :=
  congrArg KernelIdeal.lit1t (kcell i j)

/-- The reference's tables at a cell: feature columns, feature rows, mask. -/
theorem ref_at (i j : Fin 200) :
    ReferenceIdeal.lit0 (ReferenceIdeal.S200x200.rowMajor (ix2 i j)) = ReferenceIdeal.lit0t (200 * i.val + j.val)
      ∧ ReferenceIdeal.lit1 (ReferenceIdeal.S200x200.rowMajor (ix2 i j)) = ReferenceIdeal.lit1t (200 * i.val + j.val)
      ∧ ReferenceIdeal.lit2 (ReferenceIdeal.S200x200.rowMajor (ix2 i j)) = ReferenceIdeal.lit2t (200 * i.val + j.val) :=
  ⟨congrArg ReferenceIdeal.lit0t (rcell i j), congrArg ReferenceIdeal.lit1t (rcell i j), congrArg ReferenceIdeal.lit2t (rcell i j)⟩

end Cert.Tables
end
-- ==== Proof.Result.lean ====
/- The kernel's result is the reference's: one-hot selection against the position tables is the reference's gather. -/
module

public import proofs.«01_k».proof.Proof.Out
public import proofs.«01_k».proof.Proof.Equation
public import proofs.«01_k».proof.Proof.Strips
public import proofs.«01_k».proof.Proof.Tables

@[expose] public section

set_option maxRecDepth 16384
noncomputable section
open Idealize.ShloMosaic Idealize.ShloMosaic.TcCoe Idealize.SL.Sem
namespace Cert.Result
open Cert.KernelIdeal Cert.KernelIdeal.Host Cert.KernelIdeal.Rows Cert.KernelIdeal.Out Cert.ReferenceIdeal.Ref Cert.Tables

/-- A sum against a one-hot column picks out one entry. -/
theorem one_hot (a : Fin 224 → EReal) (u : BitVec 32) (hu : u.toNat < 224) :
    ∑ x : Fin 224, a x * (if BitVec.ofNat 32 x.val = u then (1 : EReal) else 0) = a ⟨u.toNat, hu⟩ := by
  rw [Finset.sum_eq_single (⟨u.toNat, hu⟩ : Fin 224)]
  · rw [if_pos (by simp), mul_one]
  · intro x _ hx
    rw [if_neg, mul_zero]
    intro h
    refine hx (Fin.ext ?_)
    have e : (BitVec.ofNat 32 x.val).toNat = u.toNat := congrArg BitVec.toNat h
    have := x.isLt
    simp only [BitVec.toNat_ofNat] at e
    show x.val = u.toNat
    omega
  · exact fun h => absurd (Finset.mem_univ _) h

/-- The second kernel's result, from features that agree with the reference's, is the reference's output. -/
theorem out_eq (A : Vec Ideal S22x2x192x224 .f32) (f : FVec Ideal ReferenceIdeal.S2x192x224x224 .f32)
    (hA : ∀ (k : Fin 22) (n : Fin 2) (o : Fin 192) (x : Fin 224),
      A (ix4 k n o x) = f (ix4 n o ⟨base k + 2, by have := base_le k; omega⟩ x)) :
    outVal A (fun i => lit0 (S200x1x200.rowMajor i)) (fun i => FloatOps.ofBits (F := Ideal) .f32 (lit1 (S200x1x200.rowMajor i)))
      = refOut f (fun i => ReferenceIdeal.lit1 (ReferenceIdeal.S200x200.rowMajor i))
        (fun i => ReferenceIdeal.lit0 (ReferenceIdeal.S200x200.rowMajor i))
        (fun i => ReferenceIdeal.lit2 (ReferenceIdeal.S200x200.rowMajor i)) := by
  funext y
  obtain ⟨n, o, i, j, rfl⟩ : ∃ (n : Fin 2) (o : Fin 192) (i j : Fin 200), y = ix4 n o i j := ⟨y 0, y 1, y 2, y 3, eq_ix4 y⟩
  show (if i.val < 101 then (0 : EReal) else ∑ x : Fin 224, A (ix4 (slotOf i.val) n o x)
    * (if BitVec.ofNat 32 x.val = lit0 (S200x1x200.rowMajor (ix3 i 0 j))
        then FloatOps.ofBits (F := Ideal) .f32 (lit1 (S200x1x200.rowMajor (ix3 i 0 j))) else 0)) = _
  rw [column_at, weight_at]
  obtain ⟨eu, ev, ek⟩ := ref_at i j
  have hc := cell_ok i j
  generalize ReferenceIdeal.lit0t (200 * i.val + j.val) = u at *
  generalize ReferenceIdeal.lit1t (200 * i.val + j.val) = v at *
  generalize ReferenceIdeal.lit2t (200 * i.val + j.val) = k at *
  generalize KernelIdeal.lit1t (200 * i.val + j.val) = w at *
  by_cases hk : k = 1#1
  · obtain ⟨hi, rfl, hu, hr⟩ := check_on hc hk
    have hb := base_le (slotOf i.val)
    have hv : v = BitVec.ofNat 32 (base (slotOf i.val) + 2) := BitVec.eq_of_toNat_eq (by rw [BitVec.toNat_ofNat]; omega)
    rw [refOut_on f _ _ _ n o i j ⟨base (slotOf i.val) + 2, by omega⟩ ⟨u.toNat, hu⟩ (ek.trans hk)
      (ev.trans hv) (eu.trans (by simp)), if_neg (by omega)]
    have e1 : FloatOps.ofBits (F := Ideal) .f32 0x3F800000#32 = (1 : EReal) := Ideal.ofBits_one_f32
    rw [e1]
    exact (one_hot _ u hu).trans (hA _ n o _)
  · rw [refOut_apply, if_neg fun h => hk (ek.symm.trans h)]
    by_cases hi : i.val < 101
    · exact if_pos hi
    · rw [if_neg hi, (check_off hc hk).resolve_left hi]
      have e0 : FloatOps.ofBits (F := Ideal) .f32 0#32 = (0 : EReal) := Ideal.ofBits_zero_f32
      rw [e0]
      refine Finset.sum_eq_zero fun x _ => ?_
      rw [ite_self, mul_zero]

/-- What the kernel leaves in its result array: the reference's layers, applied to the kernel's own arguments. -/
theorem kernel_value (m : (ℓ : Loc nD τ sig) → Buf (Elt Ideal) ℓ) (ρ : Dev nD → PrngReg) (c : Dev nD) :
    Gen.W5 m ρ c (Proc.devRef .tc main_v57)
      = refOut (ref2 (ref1 (m ((c.tc : Thread nD τ).loc main_arg0)) (m ((c.tc : Thread nD τ).loc main_arg5)) (m ((c.tc : Thread nD τ).loc main_arg6)))
          (m ((c.tc : Thread nD τ).loc main_arg7)) (m ((c.tc : Thread nD τ).loc main_arg8)))
        (fun i => ReferenceIdeal.lit1 (ReferenceIdeal.S200x200.rowMajor i))
        (fun i => ReferenceIdeal.lit0 (ReferenceIdeal.S200x200.rowMajor i))
        (fun i => ReferenceIdeal.lit2 (ReferenceIdeal.S200x200.rowMajor i)) := by
  have h1 : Gen.V5 m ρ c main_v57 = outVal (Gen.V4 m ρ c main_v56) (Gen.V4 m ρ c main_c) (Gen.V4 m ρ c main_cst) :=
    (Gen.hF1 m ρ c 3).symm.trans (Out.final (Gen.V4 m ρ) c)
  have h0 : Gen.V4 m ρ c main_v56 = Strip.featVal (Gen.V3 m ρ c main_v55) (Gen.V3 m ρ c main_v2) (Gen.V3 m ρ c main_v6)
      (Gen.V3 m ρ c main_v5) (Gen.V3 m ρ c main_v7) := (Gen.hF0 m ρ c 5).symm.trans (Strip.final (Gen.V3 m ρ) c)
  rw [v55_eq, v2_eq, v5_eq] at h0
  refine h1.trans ?_
  rw [c_eq, cst_eq, h0]
  exact out_eq _ _ (Equation.feat_eq _ _ _ _ _ _ _ (v6_apply m ρ c) (v7_apply m ρ c))

end Cert.Result
end
-- ==== Proof.lean ====
/- The proof of the claim: both programs run and leave their arguments and their semaphores as they were, and from equal
   arguments the kernel ends with the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Result
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, leaving its arguments and its semaphores as they were. -/
theorem ref_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments the kernel and the reference end with equal results. -/
theorem values : Cert.algebraic_KernelIdeal_ReferenceIdeal := by
  pair_intro
  · run_from (Cert.KernelIdeal.Run.result m g) & (Cert.KernelIdeal.Gen.unchanged m g)
  · run_from Cert.ReferenceIdeal.Value.run m' g'
    obtain ⟨h0, _, _, _, _, h5, h6, h7, h8⟩ := hagree c
    rw [Cert.ReferenceIdeal.Ref.res_eq, Cert.Result.kernel_value, h0, h5, h6, h7, h8]

/-- Every claim. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, ref_frame, trivial, values⟩

end Cert.Proof

end
